-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_normal [hPre_scales_normal : Cert.Pre_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_normal [hPre_scales_normal : Cert.Pre_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scales_normal [hKernelIdeal : Cert.KernelIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scales_normal [hReferenceIdeal : Cert.ReferenceIdeal.Facts] [hPre_scales_normal : Cert.Pre_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S512x128 Cert.KernelIdeal.S256x128

def algebraic_KernelIdeal_ReferenceIdeal_pre_scales_normal [hKernelIdeal : Cert.KernelIdeal.Facts] [hReferenceIdeal : Cert.ReferenceIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scales_normal : Cert.Pre_scales_normal.Facts),
    quiescent_Kernel (hKernel := hKernel)
    ∧ quiescent_KernelIdeal (hKernelIdeal := hKernelIdeal)
    ∧ quiescent_KernelIdeal_pre_scales_normal (hKernelIdeal := hKernelIdeal) (hPre_scales_normal := hPre_scales_normal)
    ∧ quiescent_ReferenceIdeal (hReferenceIdeal := hReferenceIdeal)
    ∧ quiescent_ReferenceIdeal_pre_scales_normal (hReferenceIdeal := hReferenceIdeal) (hPre_scales_normal := hPre_scales_normal)
    ∧ preserves_Kernel_KernelIdeal
    ∧ algebraic_KernelIdeal_ReferenceIdeal_pre_scales_normal (hKernelIdeal := hKernelIdeal) (hReferenceIdeal := hReferenceIdeal) (hPre_scales_normal := hPre_scales_normal)
-- ==== Pre_scales_normal.lean ====
abbrev S8x3072x1152 : Shape := ⟨3, ![8, 3072, 1152]⟩
abbrev S1024x1152 : Shape := ⟨2, ![1024, 1152]⟩
abbrev S1024x36 : Shape := ⟨2, ![1024, 36]⟩
abbrev S1024 : Shape := ⟨1, ![1024]⟩
abbrev S8x3072x36x32 : Shape := ⟨4, ![8, 3072, 36, 32]⟩
abbrev S_ : Shape := ⟨0, ![]⟩
abbrev S8x3072x36 : Shape := ⟨3, ![8, 3072, 36]⟩

class Facts : Prop where
  bitsLt_bf16_f32 : FTy.bits .bf16 < FTy.bits .f32
  shapeCasts_S8x3072x1152_S8x3072x36x32 : S8x3072x1152.ShapeCasts S8x3072x36x32
  reducesTo_S8x3072x36x32_S8x3072x36_d3 : S8x3072x36x32.ReducesTo [3] S8x3072x36
  h_S_ : 0 < S_.numel
  bcast_S_S8x3072x36 : S_.BroadcastsInDim S8x3072x36 (![] : Fin 0 → Fin S8x3072x36.rank)
  natLt_8_32 : 8 < 32
  reducesTo_S8x3072x36_S_d0_1_2 : S8x3072x36.ReducesTo [0, 1, 2] S_
  bcast_S_S1024x36 : S_.BroadcastsInDim S1024x36 (![] : Fin 0 → Fin S1024x36.rank)
  reducesTo_S1024x36_S_d0_1 : S1024x36.ReducesTo [0, 1] S_

variable [Facts]

def fn_part1 {F : FTy → Type} [FloatOps F] (main_v12 : IVec S1024x36 32) (main_v13 : IVec S_ 1) (main_v15 : IVec S1024x36 1) (main_v16 : IVec S1024x36 32) : IVec S_ 1 :=
  let main_v17 : IVec S1024x36 1 := cmpi .sle main_v12 main_v16
  let main_v18 : IVec S1024x36 1 := andi main_v15 main_v17
  let main_c_5 : IVec S_ 1 := constantI S_ 1 1#1
  let main_v19 : IVec S_ 1 := (fun x v => Host.reduce IntOp.andi x v reducesTo_S1024x36_S_d0_1 h_S_) main_v18 main_c_5
  let main_v20 : IVec S_ 1 := andi main_v13 main_v19
  main_v20

def fn {F : FTy → Type} [FloatOps F] (main_arg0 : FVec F S8x3072x1152 .bf16) (main_arg1 : FVec F S1024x1152 .fp8e4m3) (main_arg2 : IVec S1024x36 8) (main_arg3 : FVec F S1024 .f32) : IVec S_ 1 :=
  let main_v0 : FVec F S8x3072x1152 .f32 := (extf .f32 · bitsLt_bf16_f32) main_arg0
  let main_v1 : FVec F S8x3072x1152 .f32 := Host.absf main_v0
  let main_v2 : FVec F S8x3072x36x32 .f32 := shapeCast S8x3072x36x32 main_v1 shapeCasts_S8x3072x1152_S8x3072x36x32
  let main_cst : FVec F S_ .f32 := constant S_ .f32 0xFF800000#32
  let main_v3 : FVec F S8x3072x36 .f32 := (fun x v => Host.reduce FloatOps.maximumf x v reducesTo_S8x3072x36x32_S8x3072x36_d3 h_S_) main_v2 main_cst
  let main_cst_0 : FVec F S_ .f32 := constant S_ .f32 0x7F7F0000#32
  let main_v4 : FVec F S8x3072x36 .f32 := broadcastInDim S8x3072x36 ![] bcast_S_S8x3072x36 main_cst_0
  let main_v5 : IVec S8x3072x36 1 := cmpf .ole main_v3 main_v4
  let main_cst_1 : FVec F S_ .f32 := constant S_ .f32 0x00000000#32
  let main_v6 : FVec F S8x3072x36 .f32 := broadcastInDim S8x3072x36 ![] bcast_S_S8x3072x36 main_cst_1
  let main_v7 : IVec S8x3072x36 1 := cmpf .oeq main_v3 main_v6
  let main_cst_2 : FVec F S_ .f32 := constant S_ .f32 0x04600000#32
  let main_v8 : FVec F S8x3072x36 .f32 := broadcastInDim S8x3072x36 ![] bcast_S_S8x3072x36 main_cst_2
  let main_v9 : IVec S8x3072x36 1 := cmpf .oge main_v3 main_v8
  let main_v10 : IVec S8x3072x36 1 := ori main_v7 main_v9
  let main_v11 : IVec S8x3072x36 1 := andi main_v5 main_v10
  let main_v12 : IVec S1024x36 32 := (extui 32 · natLt_8_32) main_arg2
  let main_c : IVec S_ 1 := constantI S_ 1 1#1
  let main_v13 : IVec S_ 1 := (fun x v => Host.reduce IntOp.andi x v reducesTo_S8x3072x36_S_d0_1_2 h_S_) main_v11 main_c
  let main_c_3 : IVec S_ 32 := constantI S_ 32 1#32
  let main_v14 : IVec S1024x36 32 := broadcastInDim S1024x36 ![] bcast_S_S1024x36 main_c_3
  let main_v15 : IVec S1024x36 1 := cmpi .sge main_v12 main_v14
  let main_c_4 : IVec S_ 32 := constantI S_ 32 254#32
  let main_v16 : IVec S1024x36 32 := broadcastInDim S1024x36 ![] bcast_S_S1024x36 main_c_4
  fn_part1 (F := F) main_v12 main_v13 main_v15 main_v16
-- ==== Kernel.lean ====
abbrev S8x3072x1152 : Shape := ⟨3, ![8, 3072, 1152]⟩
abbrev S1024x1152 : Shape := ⟨2, ![1024, 1152]⟩
abbrev S1024x36 : Shape := ⟨2, ![1024, 36]⟩
abbrev S1024 : Shape := ⟨1, ![1024]⟩
abbrev S24576x1152 : Shape := ⟨2, ![24576, 1152]⟩
abbrev S1x1024 : Shape := ⟨2, ![1, 1024]⟩
abbrev S24576x1024 : Shape := ⟨2, ![24576, 1024]⟩
abbrev S24576x36 : Shape := ⟨2, ![24576, 36]⟩
abbrev S512x1152 : Shape := ⟨2, ![512, 1152]⟩
abbrev S512x1024 : Shape := ⟨2, ![512, 1024]⟩
abbrev S512x36 : Shape := ⟨2, ![512, 36]⟩
abbrev S36x1152 : Shape := ⟨2, ![36, 1152]⟩
abbrev S256x128 : Shape := ⟨2, ![256, 128]⟩
abbrev S512x128 : Shape := ⟨2, ![512, 128]⟩
abbrev S1024x128 : Shape := ⟨2, ![1024, 128]⟩
abbrev S256x128x1 : Shape := ⟨3, ![256, 128, 1]⟩
abbrev S256x1x128 : Shape := ⟨3, ![256, 1, 128]⟩
abbrev S256x2x128 : Shape := ⟨3, ![256, 2, 128]⟩

abbrev nBuf : Space → Nat
  | .hbm => 9
  | .vmem => 12
  | .smem => 0
  | _ => 0

abbrev bufTy : (tb : Table) → Fin (tcTables nBuf tb) → BufTy
  | .hbm, ⟨0, _⟩ => ⟨S8x3072x1152, .bf16⟩
  | .hbm, ⟨1, _⟩ => ⟨S1024x1152, .fp8e4m3⟩
  | .hbm, ⟨2, _⟩ => ⟨S1024x36, .i8⟩
  | .hbm, ⟨3, _⟩ => ⟨S1024, .f32⟩
  | .hbm, ⟨4, _⟩ => ⟨S24576x1152, .bf16⟩
  | .hbm, ⟨5, _⟩ => ⟨S1x1024, .f32⟩
  | .hbm, ⟨6, _⟩ => ⟨S24576x1024, .bf16⟩
  | .hbm, ⟨7, _⟩ => ⟨S24576x1152, .fp8e4m3⟩
  | .hbm, ⟨8, _⟩ => ⟨S24576x36, .i8⟩
  | .local _ .vmem, ⟨0, _⟩ => ⟨S512x1152, .bf16⟩
  | .local _ .vmem, ⟨1, _⟩ => ⟨S512x1152, .bf16⟩
  | .local _ .vmem, ⟨2, _⟩ => ⟨S1024x1152, .fp8e4m3⟩
  | .local _ .vmem, ⟨3, _⟩ => ⟨S1024x36, .i8⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S512x1152, .fp8e4m3⟩
  | .local _ .vmem, ⟨8, _⟩ => ⟨S512x1152, .fp8e4m3⟩
  | .local _ .vmem, ⟨9, _⟩ => ⟨S512x36, .i8⟩
  | .local _ .vmem, ⟨10, _⟩ => ⟨S512x36, .i8⟩
  | .local _ .vmem, ⟨11, _⟩ => ⟨S1024x1152, .bf16⟩
  | _, _ => ⟨S8x3072x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x36 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x36 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S8x3072x1152 : Shape := ⟨3, ![8, 3072, 1152]⟩
abbrev S1024x1152 : Shape := ⟨2, ![1024, 1152]⟩
abbrev S1024x36 : Shape := ⟨2, ![1024, 36]⟩
abbrev S1024 : Shape := ⟨1, ![1024]⟩
abbrev S24576x1152 : Shape := ⟨2, ![24576, 1152]⟩
abbrev S1x1024 : Shape := ⟨2, ![1, 1024]⟩
abbrev S24576x1024 : Shape := ⟨2, ![24576, 1024]⟩
abbrev S24576x36 : Shape := ⟨2, ![24576, 36]⟩
abbrev S24576x36x32 : Shape := ⟨3, ![24576, 36, 32]⟩
abbrev S24576x36x1 : Shape := ⟨3, ![24576, 36, 1]⟩
abbrev S1024x36x32 : Shape := ⟨3, ![1024, 36, 32]⟩
abbrev S36x24576x1024 : Shape := ⟨3, ![36, 24576, 1024]⟩
abbrev S36x24576 : Shape := ⟨2, ![36, 24576]⟩
abbrev S36x1024 : Shape := ⟨2, ![36, 1024]⟩
abbrev S36x24576x1 : Shape := ⟨3, ![36, 24576, 1]⟩
abbrev S36x1x1024 : Shape := ⟨3, ![36, 1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8x3072x1152, .bf16⟩
  | .hbm, ⟨1, _⟩ => ⟨S1024x1152, .fp8e4m3⟩
  | .hbm, ⟨2, _⟩ => ⟨S1024x36, .i8⟩
  | .hbm, ⟨3, _⟩ => ⟨S1024, .f32⟩
  | .hbm, ⟨4, _⟩ => ⟨S24576x1152, .bf16⟩
  | .hbm, ⟨5, _⟩ => ⟨S1x1024, .f32⟩
  | .hbm, ⟨6, _⟩ => ⟨S24576x1024, .bf16⟩
  | .hbm, ⟨7, _⟩ => ⟨S24576x1152, .fp8e4m3⟩
  | .hbm, ⟨8, _⟩ => ⟨S24576x36, .i8⟩
  | .local _ .vmem, ⟨0, _⟩ => ⟨S24576x1152, .bf16⟩
  | .local _ .vmem, ⟨1, _⟩ => ⟨S1024x1152, .fp8e4m3⟩
  | .local _ .vmem, ⟨2, _⟩ => ⟨S1024x36, .i8⟩
  | .local _ .vmem, ⟨3, _⟩ => ⟨S1x1024, .f32⟩
  | .local _ .vmem, ⟨4, _⟩ => ⟨S24576x1024, .bf16⟩
  | .local _ .vmem, ⟨5, _⟩ => ⟨S24576x1152, .fp8e4m3⟩
  | .local _ .vmem, ⟨6, _⟩ => ⟨S24576x36, .i8⟩
  | _, _ => ⟨S8x3072x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_max" => some ((1 / 448 : ℝ) : EReal)
  | _ => none

abbrev grid0 : Pipeline.Grid := .none

abbrev stage0_0 : Fin 1 → Memref sig .tc .vmem S24576x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x36 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1152 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x36 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Lanes.lean ====
module

public import proofs.«01_k».proof.Proof.Gen.KernelIdeal.Value
public import Idealize.ShloMosaic.Lib.Pointwise

set_option maxRecDepth 16384

@[expose] public section

noncomputable section

namespace Cert.KernelIdeal.Lanes

open Idealize.ShloMosaic Cert.KernelIdeal Cert.KernelIdeal.Gen

/-- A slab of the activations: 512 rows of 128 lanes. -/
abbrev Slab := FVec Ideal S512x128 .bf16

/-- One word per pair of rows. -/
abbrev Words := IVec S256x128 32

/-- The lane rotation that moves the values by `s` lanes towards the lanes of slab `j`'s group
    leaders: up if the bit `s` of `j` is set, down otherwise. -/
def toward (j s : ℕ) : BitVec 32 := BitVec.ofNat 32 (if j &&& s = 0 then 128 - s else s)

/-- The rotation the other way, away from the group leaders. -/
def away (j s : ℕ) : BitVec 32 := BitVec.ofNat 32 (if j &&& s = 0 then s else 128 - s)

/-- One step of the lane maximum: each row with itself rotated by `n` lanes. -/
def maxStep (n : BitVec 32) (x : Slab) : Slab :=
  maximumf
    (interleaveRows S512x128 (rowsOfParity 0 S256x128 x bitcasts_S512x128_w16_S256x128_w32)
      (rowsOfParity 1 S256x128 x bitcasts_S512x128_w16_S256x128_w32) bitcasts_S512x128_w16_S256x128_w32)
    (interleaveRows S512x128
      (dynamicRotate 1 n none (rowsOfParity 0 S256x128 x bitcasts_S512x128_w16_S256x128_w32) rotates_S256x128_d1)
      (dynamicRotate 1 n none (rowsOfParity 1 S256x128 x bitcasts_S512x128_w16_S256x128_w32) rotates_S256x128_d1)
      bitcasts_S512x128_w16_S256x128_w32)

/-- The running maxima of a slab's magnitudes that leave, on the lanes `32 q + j`, the maxima of the
    slab's four groups. -/
def slabMax (j : ℕ) (x : Slab) : Slab :=
  maxStep (toward j 1) (maxStep (toward j 2) (maxStep (toward j 4) (maxStep (toward j 8)
    (maxStep (toward j 16) (absf (shapeCast S512x128 x shapeCasts_S512x128_S512x128))))))

/-- Whether a lane is the leader of slab `j`'s groups. -/
def isLead (j : ℕ) : IVec S256x128 1 :=
  cmpi .eq k0_pay3 (broadcast S256x128 (BitVec.ofNat 32 j))

/-- The maxima of the even (`p = 0`) or odd (`p = 1`) rows, those of slab `j` on the lanes that are
    `j` modulo 32. -/
def compact (p : Fin 2) (x0 x1 x2 x3 x4 x5 x6 x7 x8 : Slab) : FVec Ideal S256x128 .bf16 :=
  let r (j : ℕ) (x : Slab) := rowsOfParity p S256x128 (slabMax j x) bitcasts_S512x128_w16_S256x128_w32
  select (isLead 8) (r 8 x8) (select (isLead 7) (r 7 x7) (select (isLead 6) (r 6 x6)
    (select (isLead 5) (r 5 x5) (select (isLead 4) (r 4 x4) (select (isLead 3) (r 3 x3)
      (select (isLead 2) (r 2 x2) (select (isLead 1) (r 1 x1) (r 0 x0))))))))

/-- One step of the exponent search: keep the bit `b` if the magnitude reaches the threshold. -/
def findStep (a : FVec Ideal S256x128 .f32) (b : BitVec 32) (e : Words) : Words :=
  select (cmpf .oge a (bitcastToFloat .f32 (subi (shli (addi e (broadcast S256x128 b))
    (broadcast S256x128 23#32)) (broadcast S256x128 2097152#32))))
    (addi e (broadcast S256x128 b)) e

/-- The scale byte of a magnitude. -/
def scaleByte (a : FVec Ideal S256x128 .f32) : Words :=
  select (cmpf .oeq a (broadcast S256x128 (Scalar.ofBits .f32 0x00000000#32 : Ideal .f32)))
    (broadcast S256x128 127#32)
    (maxsi (subi (findStep a 1#32 (findStep a 2#32 (findStep a 4#32 (findStep a 8#32
      (findStep a 16#32 (findStep a 32#32 (findStep a 64#32 (findStep a 128#32
        (broadcast S256x128 0#32))))))))) (broadcast S256x128 8#32)) (broadcast S256x128 0#32))

/-- The scales of two rows as the halves of one word. -/
def scaleWord (lo hi : Words) : Words := k0_pay68 lo hi 7#32

/-- The inverse scales of two rows as the halves of one word. -/
def invWord (lo hi : Words) : Words := k0_pay69 lo hi

/-- One step of the spreading: each word joined with the one `n` lanes away. -/
def orStep (n : BitVec 32) (z : Words) : Words :=
  ori z (dynamicRotate 1 n none z rotates_S256x128_d1)

/-- The words on slab `j`'s leader lanes spread over the lanes of their groups. -/
def spread (j : ℕ) (w : Words) : Words :=
  orStep (away j 16) (orStep (away j 8) (orStep (away j 4) (orStep (away j 2) (orStep (away j 1)
    (select (isLead j) w (broadcast S256x128 0#32))))))

/-- A word vector read as a slab of factors. -/
def asFactor (z : Words) : Slab :=
  bitcastToFloat .bf16 (bitcast S512x128 16 z bitcasts_S256x128_w32_S512x128_w16)

/-- The codes of slab `j`. -/
def codes (j : ℕ) (inv : Words) (x : Slab) : FVec Ideal S512x128 .fp8e4m3 :=
  truncf .fp8e4m3 (minimumf
    (broadcast S512x128 (Scalar.truncf .bf16 bitsLt_bf16_f32 (Scalar.ofBits .f32 0x43E00000#32 : Ideal .f32)))
    (maximumf
      (broadcast S512x128 (Scalar.truncf .bf16 bitsLt_bf16_f32 (Scalar.ofBits .f32 0xC3E00000#32 : Ideal .f32)))
      (mulf (shapeCast S512x128 x shapeCasts_S512x128_S512x128) (asFactor (spread j inv)))))
    bitsLt_fp8e4m3_bf16

/-- The product of slab `j`'s dequantised codes with the slab `w` of the dequantised weights. -/
def part (j : ℕ) (scale inv : Words) (x : Slab) (w : FVec Ideal S1024x128 .bf16) :
    FVec Ideal S512x1024 .f32 :=
  matmul dot_S512x128_S1024x128_S512x1024_1_1_0_0_n_n none
    (mulf (extf .bf16 (codes j inv x) bitsLt_fp8e4m3_bf16) (asFactor (spread j scale))) w
    (constant S512x1024 .f32 0x00000000#32)

variable (x0 x1 x2 x3 x4 x5 x6 x7 x8 : Slab)

/-- Slab 0's maxima. -/
theorem max0 : k0_pay6 (k0_pay4 x0) (k0_pay5 x0) = slabMax 0 x0 := rfl

/-- Slab 1's maxima. -/
theorem max1 : k0_pay15 (k0_pay12 x1) (k0_pay13 x1) (k0_pay14 x1) = slabMax 1 x1 := rfl

/-- Slab 2's maxima. -/
theorem max2 : k0_pay18 x2 = slabMax 2 x2 := rfl

/-- Slab 3's maxima. -/
theorem max3 : k0_pay22 x3 = slabMax 3 x3 := rfl

/-- Slab 4's maxima. -/
theorem max4 : k0_pay29 (k0_pay27 x4) (k0_pay28 x4) = slabMax 4 x4 := rfl

/-- Slab 5's maxima. -/
theorem max5 : k0_pay36 (k0_pay34 x5) (k0_pay35 x5) = slabMax 5 x5 := rfl

/-- Slab 6's maxima. -/
theorem max6 : k0_pay43 (k0_pay41 x6) (k0_pay42 x6) = slabMax 6 x6 := rfl

/-- Slab 7's maxima. -/
theorem max7 : k0_pay50 (k0_pay48 x7) (k0_pay49 x7) = slabMax 7 x7 := rfl

/-- Slab 8's maxima. -/
theorem max8 : k0_pay57 (k0_pay55 x8) (k0_pay56 x8) = slabMax 8 x8 := rfl

/-- The even rows' maxima before the last slab joins them. -/
def pre_lo : FVec Ideal S256x128 .bf16 :=
  k0_pay52 k0_pay3 (k0_pay45 k0_pay3 (k0_pay38 k0_pay3 (k0_pay31 k0_pay3 (k0_pay24 k0_pay3
    (k0_pay21 k0_pay3 (k0_pay7 (k0_pay4 x0) (k0_pay5 x0)) (k0_pay12 x1) (k0_pay13 x1) (k0_pay14 x1) x2) x3)
    (k0_pay27 x4) (k0_pay28 x4)) (k0_pay34 x5) (k0_pay35 x5)) (k0_pay41 x6) (k0_pay42 x6))
    (k0_pay48 x7) (k0_pay49 x7)

/-- The odd rows' maxima before the last slab joins them. -/
def pre_hi : FVec Ideal S256x128 .bf16 :=
  k0_pay53 k0_pay3 (k0_pay46 k0_pay3 (k0_pay39 k0_pay3 (k0_pay32 k0_pay3 (k0_pay25 k0_pay3
    (k0_pay17 k0_pay3 (k0_pay8 (k0_pay4 x0) (k0_pay5 x0)) (k0_pay12 x1) (k0_pay13 x1) (k0_pay14 x1))
    (k0_pay19 x2) (k0_pay20 k0_pay3) x3)
    (k0_pay27 x4) (k0_pay28 x4)) (k0_pay34 x5) (k0_pay35 x5)) (k0_pay41 x6) (k0_pay42 x6))
    (k0_pay48 x7) (k0_pay49 x7)

/-- The even rows' maxima, in single precision. -/
theorem amax_lo : k0_pay59 k0_pay3 (pre_lo x0 x1 x2 x3 x4 x5 x6 x7) (k0_pay55 x8) (k0_pay56 x8)
    = extf .f32 (compact 0 x0 x1 x2 x3 x4 x5 x6 x7 x8) bitsLt_bf16_f32 := by
  unfold pre_lo k0_pay59 k0_pay52 k0_pay45 k0_pay38 k0_pay31 k0_pay24 k0_pay21 k0_pay7
  rw [max0, max1, max2, max3, max4, max5, max6, max7, max8]
  rfl

/-- The odd rows' maxima, in single precision. -/
theorem amax_hi : k0_pay60 k0_pay3 (pre_hi x0 x1 x2 x3 x4 x5 x6 x7) (k0_pay55 x8) (k0_pay56 x8)
    = extf .f32 (compact 1 x0 x1 x2 x3 x4 x5 x6 x7 x8) bitsLt_bf16_f32 := by
  unfold pre_hi k0_pay60 k0_pay53 k0_pay46 k0_pay39 k0_pay32 k0_pay25 k0_pay19 k0_pay17 k0_pay8
  rw [max0, max1, max2, max3, max4, max5, max6, max7, max8]
  rfl

/-- The even rows' scale bytes. -/
theorem byte_lo (v lo hi) : k0_pay66 (k0_pay59 k0_pay3 v lo hi)
      (k0_pay63 (k0_pay59 k0_pay3 v lo hi) (k0_pay61 k0_pay3 v lo hi) (k0_pay62 k0_pay3 v lo hi))
    = scaleByte (k0_pay59 (F := Ideal) k0_pay3 v lo hi) := by
  unfold k0_pay66 k0_pay63 k0_pay62 k0_pay61
  generalize k0_pay59 (F := Ideal) k0_pay3 v lo hi = a
  rfl

/-- The odd rows' scale bytes. -/
theorem byte_hi (a) : k0_pay67 a (k0_pay65 a k0_pay64 128#32) 4#32
    = scaleByte a := rfl

variable (s v : Words) (w : FVec Ideal S1024x128 .bf16) (y : FVec Ideal S512x1024 .f32)

/-- The codes of the first slab. -/
theorem codes0 (lo hi : Words) :
    k0_pay73 (k0_pay70 k0_pay3 lo hi) (k0_pay72 k0_pay3 lo hi) x0 = codes 0 (invWord lo hi) x0 := rfl

/-- The contribution of the first slab. -/
theorem part0 (lo hi : Words) :
    k0_pay74 (k0_pay70 k0_pay3 lo hi) (k0_pay71 k0_pay3 lo hi 7#32) (k0_pay72 k0_pay3 lo hi) x0 w
      = part 0 (scaleWord lo hi) (invWord lo hi) x0 w := rfl

/-- The codes of slab 1. -/
theorem codes1 : k0_pay78 (k0_pay76 k0_pay3 v) x0 = codes 1 v x0 := rfl

/-- The contribution of slab 1, added to the sum so far. -/
theorem part1 : k0_pay79 y (k0_pay75 k0_pay3 s) (k0_pay76 k0_pay3 v) (k0_pay77 k0_pay3 s) x0 w
    = addf y (part 1 s v x0 w) := rfl

/-- The codes of slab 2. -/
theorem codes2 : k0_pay82 (k0_pay80 k0_pay3 v) 126#32 x0 = codes 2 v x0 := rfl

/-- The contribution of slab 2, added to the sum so far. -/
theorem part2 : k0_pay83 y (k0_pay80 k0_pay3 v) (k0_pay81 k0_pay3 s) 126#32 x0 w
    = addf y (part 2 s v x0 w) := rfl

/-- The codes of slab 3. -/
theorem codes3 : k0_pay86 (k0_pay85 k0_pay3 v) x0 = codes 3 v x0 := rfl

/-- The contribution of slab 3, added to the sum so far. -/
theorem part3 : k0_pay87 y (k0_pay84 k0_pay3 s) (k0_pay85 k0_pay3 v) x0 w
    = addf y (part 3 s v x0 w) := rfl

/-- The codes of slab 4. -/
theorem codes4 : k0_pay90 k0_pay3 v x0 = codes 4 v x0 := rfl

/-- The contribution of slab 4, added to the sum so far. -/
theorem part4 : k0_pay92 y (k0_pay89 k0_pay3 s k0_pay88) (k0_pay91 k0_pay3 v x0) w
    = addf y (part 4 s v x0 w) := rfl

/-- The codes of slab 5. -/
theorem codes5 : k0_pay96 (k0_pay94 k0_pay3 v x0) (Scalar.ofBits .f32 0x43E00000#32 : Ideal .f32) k0_pay95
    = codes 5 v x0 := rfl

/-- The contribution of slab 5, added to the sum so far. -/
theorem part5 : k0_pay97 y (k0_pay93 k0_pay3 s) (k0_pay94 k0_pay3 v x0)
    (Scalar.ofBits .f32 0x43E00000#32 : Ideal .f32) k0_pay95 w
    = addf y (part 5 s v x0 w) := rfl

/-- The codes of slab 6. -/
theorem codes6 : k0_pay100 (k0_pay99 k0_pay3 v) x0 = codes 6 v x0 := rfl

/-- The contribution of slab 6, added to the sum so far. -/
theorem part6 : k0_pay101 y (k0_pay98 k0_pay3 s) (k0_pay99 k0_pay3 v) x0 w
    = addf y (part 6 s v x0 w) := rfl

/-- The codes of slab 7. -/
theorem codes7 : k0_pay105 (k0_pay103 k0_pay3 v) x0 = codes 7 v x0 := rfl

/-- The contribution of slab 7, added to the sum so far. -/
theorem part7 : k0_pay106 y (k0_pay102 k0_pay3 s) (k0_pay103 k0_pay3 v) (k0_pay104 k0_pay3 s) x0 w
    = addf y (part 7 s v x0 w) := rfl

/-- The codes of slab 8. -/
theorem codes8 : k0_pay109 (k0_pay107 k0_pay3 v) 2#32 x0 = codes 8 v x0 := rfl

/-- The contribution of the last slab, added to the sum so far, and the bias. -/
theorem part8 (b : FVec Ideal S1x1024 .f32) :
    k0_pay110 y (k0_pay107 k0_pay3 v) (k0_pay108 k0_pay3 s) 2#32 x0 w b
    = truncf .bf16 (addf (addf y (part 8 s v x0 w)) (broadcastTo S512x1024
        (shapeCast S1x1024 b shapeCasts_S1x1024_S1x1024) broadcasts_S1x1024_S512x1024)) bitsLt_bf16_f32 := rfl

end Cert.KernelIdeal.Lanes
-- ==== Proof.LaneValues.lean ====
module

public import proofs.«01_k».proof.Proof.Lanes
public import Idealize.ShloMosaic.Lib.Bf16Pair
public import Idealize.ShloMosaic.Lib.Bf16PairInverse
public import Idealize.ShloMosaic.Lib.BitcastPair

set_option maxRecDepth 16384

@[expose] public section

noncomputable section

namespace Cert.KernelIdeal.Lanes

open Idealize.ShloMosaic Cert.KernelIdeal Cert.KernelIdeal.Gen

/-- The lane `n` lanes below `l`, around the end. -/
def back (n : BitVec 32) (l : Fin 128) : Fin 128 :=
  ⟨(l.val + 128 - n.toNat % 128) % 128, Nat.mod_lt _ (by decide)⟩

/-- A step of the maximum at an element. -/
theorem maxStep_apply (n : BitVec 32) (x : Slab) (r : Fin 512) (l : Fin 128) :
    maxStep n x (ix2 r l) = max (x (ix2 r l)) (x (ix2 r (back n l))) := by
  unfold maxStep
  pointwise
  rcases Nat.mod_two_eq_zero_or_one r.val with h | h
  · have e : (⟨2 * (r.val / 2), by omega⟩ : Fin 512) = r := Fin.ext (by simp; omega)
    simp only [h, ↓reduceIte, e]; rfl
  · have e : (⟨2 * (r.val / 2) + 1, by omega⟩ : Fin 512) = r := Fin.ext (by simp; omega)
    simp only [h, one_ne_zero, ↓reduceIte, e]; rfl

/-- A step of the spreading at an element. -/
theorem orStep_apply (n : BitVec 32) (z : Words) (r : Fin 256) (l : Fin 128) :
    orStep n z (ix2 r l) = z (ix2 r l) ||| z (ix2 r (back n l)) := by
  unfold orStep
  pointwise
  rfl

/-- Which lanes lead the groups of a slab. -/
theorem isLead_apply (j : Fin 9) (r : Fin 256) (l : Fin 128) :
    isLead j (ix2 r l) = if l.val % 32 = j.val then 1#1 else 0#1 := by
  unfold isLead k0_pay3
  pointwise
  revert j l
  decide +kernel

/-! ### The maximum over a group -/

/-- Which lanes `e` a lane `l` has seen after a step by `n`. -/
def seenStep (n : BitVec 32) (P : Fin 128 → Fin 128 → Bool) (l e : Fin 128) : Bool :=
  P l e || P (back n l) e

/-- A slab whose lanes hold the suprema of `f` over what they have seen. -/
def IsSup (m : Slab) (r : Fin 512) (f : Fin 128 → EReal) (P : Fin 128 → Fin 128 → Bool) : Prop :=
  ∀ l, m (ix2 r l) = (Finset.univ.filter fun e => P l e = true).sup f

/-- A step by `n` keeps the slab the suprema of what its lanes have seen. -/
theorem isSup_step (n : BitVec 32) {m : Slab} {r : Fin 512} {f : Fin 128 → EReal}
    {P : Fin 128 → Fin 128 → Bool} (h : IsSup m r f P) :
    IsSup (maxStep n m) r f (seenStep n P) := by
  intro l
  rw [maxStep_apply, h l, h (back n l)]
  have : (Finset.univ.filter fun e => seenStep n P l e = true)
      = (Finset.univ.filter fun e => P l e = true) ∪ (Finset.univ.filter fun e => P (back n l) e = true) := by
    ext e
    simp [seenStep]
  rw [this, Finset.sup_union]

/-- What the lanes of slab `j` have seen after the five steps. -/
def seen (j : ℕ) : Fin 128 → Fin 128 → Bool :=
  seenStep (toward j 1) (seenStep (toward j 2) (seenStep (toward j 4) (seenStep (toward j 8)
    (seenStep (toward j 16) (fun l e => l == e)))))

/-- After the five steps a leader lane has seen exactly its group. -/
theorem seen_lead : ∀ (j : Fin 9) (q : Fin 4) (e : Fin 128),
    seen j (Fin.ofNat 128 (32 * q.val + j.val)) e = true ↔ e.val / 32 = q.val := by
  decide +kernel

/-- The magnitude of a slab's element. -/
theorem abs_apply (x : Slab) (r : Fin 512) (l : Fin 128) :
    absf (shapeCast S512x128 x shapeCasts_S512x128_S512x128) (ix2 r l) = max (x (ix2 r l)) (-(x (ix2 r l))) := by
  pointwise
  rfl

/-- The leader lane of a group holds the supremum of the group's magnitudes. -/
theorem slabMax_lead (j : Fin 9) (x : Slab) (r : Fin 512) (l : Fin 128) (hl : l.val % 32 = j.val) :
    slabMax j x (ix2 r l) = (Finset.univ.filter fun e : Fin 128 => e.val / 32 = l.val / 32).sup
      fun e => max (x (ix2 r e)) (-(x (ix2 r e))) := by
  have h0 : IsSup (absf (shapeCast S512x128 x shapeCasts_S512x128_S512x128)) r
      (fun e => max (x (ix2 r e)) (-(x (ix2 r e)))) (fun l e => l == e) := by
    intro l
    rw [abs_apply]
    simp [Finset.filter_eq]
  have h := isSup_step (toward j 1) (isSup_step (toward j 2) (isSup_step (toward j 4)
    (isSup_step (toward j 8) (isSup_step (toward j 16) h0)))) l
  refine h.trans ?_
  congr 1
  ext e
  simp only [Finset.mem_filter, Finset.mem_univ, true_and]
  have h := seen_lead j ⟨l.val / 32, by omega⟩ e
  have el : Fin.ofNat 128 (32 * (l.val / 32) + j.val) = l := Fin.ext (by simp only [Fin.ofNat]; omega)
  rw [show Fin.ofNat 128 (32 * (⟨l.val / 32, by omega⟩ : Fin 4).val + j.val) = l from el] at h
  exact h

/-! ### The spreading over a group -/

/-- Words that hold, on the lanes `P`, the word of their group's leader, and zero elsewhere. -/
def Holds (j : ℕ) (z : Words) (r : Fin 256) (g : Fin 128 → BitVec 32) (P : Fin 128 → Bool) : Prop :=
  ∀ l, z (ix2 r l) = if P l then g (Fin.ofNat 128 (32 * (l.val / 32) + j)) else 0#32

/-- Which lanes hold their leader's word after a step by `n`. -/
def heldStep (n : BitVec 32) (P : Fin 128 → Bool) (l : Fin 128) : Bool := P l || P (back n l)

/-- A step that reads only within groups hands the leader's word on. -/
theorem holds_step (j : ℕ) (n : BitVec 32) {z : Words} {r : Fin 256} {g : Fin 128 → BitVec 32}
    {P : Fin 128 → Bool} (h : Holds j z r g P) (hP : ∀ l, P (back n l) = true → (back n l).val / 32 = l.val / 32) :
    Holds j (orStep n z) r g (heldStep n P) := by
  intro l
  rw [orStep_apply, h l, h (back n l), heldStep]
  cases h1 : P l <;> cases h2 : P (back n l) <;> simp [hP l, h2]

/-- Which lanes hold their leader's word after `k` of the steps. -/
def held (j : ℕ) : ℕ → Fin 128 → Bool
  | 0 => fun l => l.val % 32 == j
  | k + 1 => heldStep (away j (2 ^ k)) (held j k)

/-- Each of the five steps reads only within groups. -/
theorem held_step : ∀ (j : Fin 9) (k : Fin 5) (l : Fin 128), held j k (back (away j (2 ^ k.val)) l) = true →
    (back (away j (2 ^ k.val)) l).val / 32 = l.val / 32 := by
  decide +kernel

/-- After the five steps every lane holds its leader's word. -/
theorem held_all : ∀ (j : Fin 9) (l : Fin 128), held j 5 l = true := by
  decide +kernel

/-- The spread word of a lane is the word of its group's leader. -/
theorem spread_apply (j : Fin 9) (w : Words) (r : Fin 256) (l : Fin 128) :
    spread j w (ix2 r l) = w (ix2 r (Fin.ofNat 128 (32 * (l.val / 32) + j.val))) := by
  have h0 : Holds j (select (isLead j) w (broadcast S256x128 0#32)) r (fun l => w (ix2 r l)) (held j 0) := by
    intro l
    pointwise
    rw [isLead_apply, held]
    by_cases h : l.val % 32 = j.val
    · have e : Fin.ofNat 128 (32 * (l.val / 32) + j.val) = l := Fin.ext (by
        simp only [Fin.ofNat]; omega)
      rw [if_pos h, if_pos (by simpa using h), e]; rfl
    · rw [if_neg h, if_neg (by simpa using h)]; rfl
  have h := holds_step j (away j 16) (holds_step j (away j 8) (holds_step j (away j 4) (holds_step j (away j 2)
    (holds_step j (away j 1) h0 (held_step j 0)) (held_step j 1)) (held_step j 2)) (held_step j 3)) (held_step j 4) l
  refine h.trans ?_
  exact if_pos (held_all j l)

end Cert.KernelIdeal.Lanes
-- ==== Proof.Tiles.lean ====
/-
The results of one row tile as functions of the tile's activations, the dequantised weights and the
bias, put together from the nine slabs.
-/
module

public import proofs.«01_k».proof.Proof.LaneValues

set_option maxRecDepth 16384

@[expose] public section

noncomputable section

namespace Cert.KernelIdeal.Tiles

open Idealize.ShloMosaic Cert.KernelIdeal Cert.KernelIdeal.Gen Cert.KernelIdeal.Lanes

/-- Slab `j` of a tile of activations. -/
def slab (x : FVec Ideal S512x1152 .bf16) (j : Fin 9) : Slab :=
  fun i => x (ix2 (i 0 : Fin 512) (⟨128 * j.val + (i 1).val, by have := (i 1).isLt; have := j.isLt; simp at *; omega⟩ : Fin 1152))

/-- Slab `j` of the weights. -/
def wSlab (w : FVec Ideal S1024x1152 .bf16) (j : Fin 9) : FVec Ideal S1024x128 .bf16 :=
  fun i => w (ix2 (i 0 : Fin 1024) (⟨128 * j.val + (i 1).val, by have := (i 1).isLt; have := j.isLt; simp at *; omega⟩ : Fin 1152))

/-- The group maxima of the even or odd rows of a tile, slab `j`'s on the lanes that are `j` modulo 32. -/
def amax (p : Fin 2) (x : FVec Ideal S512x1152 .bf16) : FVec Ideal S256x128 .f32 :=
  extf .f32 (compact p (slab x 0) (slab x 1) (slab x 2) (slab x 3) (slab x 4) (slab x 5) (slab x 6) (slab x 7) (slab x 8)) bitsLt_bf16_f32

/-- The scale bytes of the even or odd rows. -/
def byte (p : Fin 2) (x : FVec Ideal S512x1152 .bf16) : Words := scaleByte (amax p x)

/-- The scales of the tile's row pairs. -/
def scales (x : FVec Ideal S512x1152 .bf16) : Words := scaleWord (byte 0 x) (byte 1 x)

/-- The inverse scales of the tile's row pairs. -/
def invs (x : FVec Ideal S512x1152 .bf16) : Words := invWord (byte 0 x) (byte 1 x)

/-- The contribution of slab `j` to the product. -/
def contrib (x : FVec Ideal S512x1152 .bf16) (w : FVec Ideal S1024x1152 .bf16) (j : Fin 9) : FVec Ideal S512x1024 .f32 :=
  part j.val (scales x) (invs x) (slab x j) (wSlab w j)

/-- The first result of a tile. -/
def outY (x : FVec Ideal S512x1152 .bf16) (w : FVec Ideal S1024x1152 .bf16) (b : FVec Ideal S1x1024 .f32) : FVec Ideal S512x1024 .bf16 :=
  truncf .bf16 (addf (addf (addf (addf (addf (addf (addf (addf (addf (contrib x w 0) (contrib x w 1)) (contrib x w 2)) (contrib x w 3))
    (contrib x w 4)) (contrib x w 5)) (contrib x w 6)) (contrib x w 7)) (contrib x w 8))
    (broadcastTo S512x1024 (shapeCast S1x1024 b shapeCasts_S1x1024_S1x1024) broadcasts_S1x1024_S512x1024)) bitsLt_bf16_f32

/-- The codes of slab `j` of a tile. -/
def slabCodes (x : FVec Ideal S512x1152 .bf16) (j : Fin 9) : FVec Ideal S512x128 .fp8e4m3 :=
  codes j.val (invs x) (slab x j)

/-- The second result of a tile, slab by slab. -/
def outCodes (x : FVec Ideal S512x1152 .bf16) : FVec Ideal S512x1152 .fp8e4m3 :=
  fun i => slabCodes x (⟨(i 1).val / 128, by have := (i 1).isLt; simp at *; omega⟩ : Fin 9)
    (ix2 (i 0 : Fin 512) (⟨(i 1).val % 128, Nat.mod_lt _ (by decide)⟩ : Fin 128))

/-- Each lane's number. -/
def lanes : Words := iota .tc S256x128 32 [1] iota_S256x128_d1_w32

/-- The third result of a tile: the scale bytes, moved from their lanes to the columns of their groups. -/
def outBytes (x : FVec Ideal S512x1152 .bf16) : IVec S512x36 8 :=
  k0_pay1 (byte 0 x) (byte 1 x) (k0_pay111 lanes) (k0_pay112 lanes)

end Cert.KernelIdeal.Tiles
-- ==== Proof.Opened.lean ====
/-
The generated results of a tile, opened: each is a function of the tile's activations, the dequantised
weights and the bias.
-/
module

public import proofs.«01_k».proof.Proof.Tiles

set_option maxRecDepth 16384

@[expose] public section

noncomputable section

namespace Cert.KernelIdeal.Opened

open Idealize.ShloMosaic Cert.KernelIdeal Cert.KernelIdeal.Gen Cert.KernelIdeal.Lanes Cert.KernelIdeal.Tiles

/-- The two zero offsets of a whole-array rectangle. -/
theorem hz : (![0, 0] : Fin 2 → Nat) = fun _ => 0 := by
  funext a; fin_cases a <;> rfl

/-- A load of 128 lanes at a multiple of 128 is a slab. -/
theorem ld_slab (x : Vec Ideal S512x1152 .bf16) (j : Fin 9) (o : ℕ) (ho : o = 128 * j.val) (inb) :
    View.ld x (Rect.unit ![0, o] ![512, 128] inb) = slab x j := by
  subst ho
  funext i
  show x _ = x _
  congr 1
  funext a
  fin_cases a <;> apply Fin.ext
  · show 0 + 1 * (i 0).val = (i 0).val
    omega
  · show 128 * j.val + 1 * (i 1).val = 128 * j.val + (i 1).val
    omega

/-- A load of 128 lanes of the weights at a multiple of 128 is a slab of them. -/
theorem ld_wSlab (x : Vec Ideal S1024x1152 .bf16) (j : Fin 9) (o : ℕ) (ho : o = 128 * j.val) (inb) :
    View.ld x (Rect.unit ![0, o] ![1024, 128] inb) = wSlab x j := by
  subst ho
  funext i
  show x _ = x _
  congr 1
  funext a
  fin_cases a <;> apply Fin.ext
  · show 0 + 1 * (i 0).val = (i 0).val
    omega
  · show 128 * j.val + 1 * (i 1).val = 128 * j.val + (i 1).val
    omega

/-- The codes of a slab, stored at a multiple of 128, are the tile's codes there. -/
theorem codes_at (x : Vec Ideal S512x1152 .bf16) (j : Fin 9) (o : ℕ) (ho : o = 128 * j.val) (inb)
    (y : (Rect.unit (s := S512x1152) ![0, o] ![512, 128] inb).shape.Idx) :
    slabCodes x j y = outCodes x ((Rect.unit (s := S512x1152) ![0, o] ![512, 128] inb).emb y) := by
  subst ho
  have h0 : (y 0).val < 512 := (y 0).isLt
  have h1 : (y 1).val < 128 := (y 1).isLt
  have e1 : (((Rect.unit (s := S512x1152) ![0, 128 * j.val] ![512, 128] inb).emb y) 1).val = 128 * j.val + 1 * (y 1).val := rfl
  have e0 : (((Rect.unit (s := S512x1152) ![0, 128 * j.val] ![512, 128] inb).emb y) 0).val = 0 + 1 * (y 0).val := rfl
  unfold outCodes
  congr 1
  · congr 1
    apply Fin.ext
    show j.val = _ / 128
    rw [e1]; omega
  · funext a
    fin_cases a <;> apply Fin.ext
    · show (y 0).val = _
      exact (e0.trans (by omega)).symm
    · show (y 1).val = _ % 128
      rw [e1]; omega

/-- A load of slab 0 of a tile of activations. -/
theorem ld0 (x : Vec Ideal S512x1152 .bf16) : View.ld x (Rect.unit ![0, 0] ![512, 128] inb_S512x1152_S512x128_0_0) = slab x 0 :=
  ld_slab x 0 0 rfl _

/-- A load of slab 0 of the weights. -/
theorem wld0 (w : Vec Ideal S1024x1152 .bf16) : View.ld w (Rect.unit ![0, 0] ![1024, 128] inb_S1024x1152_S1024x128_0_0) = wSlab w 0 :=
  ld_wSlab w 0 0 rfl _

/-- A load of slab 1 of a tile of activations. -/
theorem ld1 (x : Vec Ideal S512x1152 .bf16) : View.ld x (Rect.unit ![0, 128] ![512, 128] inb_S512x1152_S512x128_0_128) = slab x 1 :=
  ld_slab x 1 128 rfl _

/-- A load of slab 1 of the weights. -/
theorem wld1 (w : Vec Ideal S1024x1152 .bf16) : View.ld w (Rect.unit ![0, 128] ![1024, 128] inb_S1024x1152_S1024x128_0_128) = wSlab w 1 :=
  ld_wSlab w 1 128 rfl _

/-- A load of slab 2 of a tile of activations. -/
theorem ld2 (x : Vec Ideal S512x1152 .bf16) : View.ld x (Rect.unit ![0, 256] ![512, 128] inb_S512x1152_S512x128_0_256) = slab x 2 :=
  ld_slab x 2 256 rfl _

/-- A load of slab 2 of the weights. -/
theorem wld2 (w : Vec Ideal S1024x1152 .bf16) : View.ld w (Rect.unit ![0, 256] ![1024, 128] inb_S1024x1152_S1024x128_0_256) = wSlab w 2 :=
  ld_wSlab w 2 256 rfl _

/-- A load of slab 3 of a tile of activations. -/
theorem ld3 (x : Vec Ideal S512x1152 .bf16) : View.ld x (Rect.unit ![0, 384] ![512, 128] inb_S512x1152_S512x128_0_384) = slab x 3 :=
  ld_slab x 3 384 rfl _

/-- A load of slab 3 of the weights. -/
theorem wld3 (w : Vec Ideal S1024x1152 .bf16) : View.ld w (Rect.unit ![0, 384] ![1024, 128] inb_S1024x1152_S1024x128_0_384) = wSlab w 3 :=
  ld_wSlab w 3 384 rfl _

/-- A load of slab 4 of a tile of activations. -/
theorem ld4 (x : Vec Ideal S512x1152 .bf16) : View.ld x (Rect.unit ![0, 512] ![512, 128] inb_S512x1152_S512x128_0_512) = slab x 4 :=
  ld_slab x 4 512 rfl _

/-- A load of slab 4 of the weights. -/
theorem wld4 (w : Vec Ideal S1024x1152 .bf16) : View.ld w (Rect.unit ![0, 512] ![1024, 128] inb_S1024x1152_S1024x128_0_512) = wSlab w 4 :=
  ld_wSlab w 4 512 rfl _

/-- A load of slab 5 of a tile of activations. -/
theorem ld5 (x : Vec Ideal S512x1152 .bf16) : View.ld x (Rect.unit ![0, 640] ![512, 128] inb_S512x1152_S512x128_0_640) = slab x 5 :=
  ld_slab x 5 640 rfl _

/-- A load of slab 5 of the weights. -/
theorem wld5 (w : Vec Ideal S1024x1152 .bf16) : View.ld w (Rect.unit ![0, 640] ![1024, 128] inb_S1024x1152_S1024x128_0_640) = wSlab w 5 :=
  ld_wSlab w 5 640 rfl _

/-- A load of slab 6 of a tile of activations. -/
theorem ld6 (x : Vec Ideal S512x1152 .bf16) : View.ld x (Rect.unit ![0, 768] ![512, 128] inb_S512x1152_S512x128_0_768) = slab x 6 :=
  ld_slab x 6 768 rfl _

/-- A load of slab 6 of the weights. -/
theorem wld6 (w : Vec Ideal S1024x1152 .bf16) : View.ld w (Rect.unit ![0, 768] ![1024, 128] inb_S1024x1152_S1024x128_0_768) = wSlab w 6 :=
  ld_wSlab w 6 768 rfl _

/-- A load of slab 7 of a tile of activations. -/
theorem ld7 (x : Vec Ideal S512x1152 .bf16) : View.ld x (Rect.unit ![0, 896] ![512, 128] inb_S512x1152_S512x128_0_896) = slab x 7 :=
  ld_slab x 7 896 rfl _

/-- A load of slab 7 of the weights. -/
theorem wld7 (w : Vec Ideal S1024x1152 .bf16) : View.ld w (Rect.unit ![0, 896] ![1024, 128] inb_S1024x1152_S1024x128_0_896) = wSlab w 7 :=
  ld_wSlab w 7 896 rfl _

/-- A load of slab 8 of a tile of activations. -/
theorem ld8 (x : Vec Ideal S512x1152 .bf16) : View.ld x (Rect.unit ![0, 1024] ![512, 128] inb_S512x1152_S512x128_0_1024) = slab x 8 :=
  ld_slab x 8 1024 rfl _

/-- A load of slab 8 of the weights. -/
theorem wld8 (w : Vec Ideal S1024x1152 .bf16) : View.ld w (Rect.unit ![0, 1024] ![1024, 128] inb_S1024x1152_S1024x128_0_1024) = wSlab w 8 :=
  ld_wSlab w 8 1024 rfl _

/-! ## The later points -/

section B
variable (c : Dev nD) (arg1 : Memref sig .tc .vmem S512x1152 .bf16) (harg1 : arg1.IsWhole) (x0 : Vec Ideal S512x1152 .bf16)

/-- The even rows' scale bytes at the later points. -/
theorem byte0_B : kernelRun0_B.sl.r_36 (F := Ideal) c arg1 harg1 x0 = byte 0 x0 := by
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, View.readAt_eq_ld, harg1.read_unread, ld0, ld1, ld2, ld3, ld4, ld5, ld6, ld7, ld8]
  exact (byte_lo _ _ _).trans (congrArg scaleByte (amax_lo _ _ _ _ _ _ _ _ _))

/-- The odd rows' scale bytes at the later points. -/
theorem byte1_B : kernelRun0_B.sl.r_37 (F := Ideal) c arg1 harg1 x0 = byte 1 x0 := by
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, View.readAt_eq_ld, harg1.read_unread, ld0, ld1, ld2, ld3, ld4, ld5, ld6, ld7, ld8]
  exact (byte_hi _).trans (congrArg scaleByte (amax_hi _ _ _ _ _ _ _ _ _))
end B

/-- The first result at the later points. -/
theorem out4_B (c : Dev nD) (i : grid0.Coords) (arg1 : Memref sig .tc .vmem S512x1152 .bf16) (harg1 : arg1.IsWhole) (arg2 : Memref sig .tc .vmem S1024x1152 .fp8e4m3) (harg2 : arg2.IsWhole) (arg3 : Memref sig .tc .vmem S1024x36 .i8) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1152 .fp8e4m3) (harg6 : arg6.IsWhole) (arg7 : Memref sig .tc .vmem S512x36 .i8) (harg7 : arg7.IsWhole) (arg8 : Memref sig .tc .vmem S1024x1152 .bf16) (harg8 : arg8.IsWhole) (hc0 : ¬cond0_0 i)
    (x0 : Vec Ideal S512x1152 .bf16) (x1 : Vec Ideal S1024x1152 .fp8e4m3) (x2 : Vec Ideal S1024x36 .i8) (x3 : Vec Ideal S1x1024 .f32) (xs0 : Vec Ideal S1024x1152 .bf16) : out0_B_4 (F := Ideal) c i arg1 harg1 arg2 harg2 arg3 harg3 arg4 harg4 arg5 harg5 arg6 harg6 arg7 harg7 arg8 harg8 hc0 x0 x1 x2 x3 xs0 = outY x0 xs0 x3 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 x3 xs0)]
  unfold kernelRun0_B
  dsimp only
  rw [View.canon_unit_zero hz]
  simp only [kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, byte0_B, byte1_B, View.readAt_eq_ld, harg1.read_unread, harg8.read_unread, harg4.read_unread, ld0, ld1, ld2, ld3, ld4, ld5, ld6, ld7, ld8, wld0, wld1, wld2, wld3, wld4, wld5, wld6, wld7, wld8]
  have hb : View.ld x3 (Rect.unit ![0, 0] ![1, 1024] inb_S1x1024_S1x1024_0_0) = x3 := View.ld_unit_zero (S := S1x1024) hz _ _
  rw [hb]
  unfold outY kernelRun0_B.sl.cst_245
  rw [part8, part7, part6, part5, part4, part3, part2, part1, part0]
  rfl

/-- The second result at the later points. -/
theorem out5_B (c : Dev nD) (i : grid0.Coords) (arg1 : Memref sig .tc .vmem S512x1152 .bf16) (harg1 : arg1.IsWhole) (arg2 : Memref sig .tc .vmem S1024x1152 .fp8e4m3) (harg2 : arg2.IsWhole) (arg3 : Memref sig .tc .vmem S1024x36 .i8) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1152 .fp8e4m3) (harg6 : arg6.IsWhole) (arg7 : Memref sig .tc .vmem S512x36 .i8) (harg7 : arg7.IsWhole) (arg8 : Memref sig .tc .vmem S1024x1152 .bf16) (harg8 : arg8.IsWhole) (hc0 : ¬cond0_0 i)
    (x0 : Vec Ideal S512x1152 .bf16) (x1 : Vec Ideal S1024x1152 .fp8e4m3) (x2 : Vec Ideal S1024x36 .i8) (x3 : Vec Ideal S1x1024 .f32) (xs0 : Vec Ideal S1024x1152 .bf16) : out0_B_5 (F := Ideal) c i arg1 harg1 arg2 harg2 arg3 harg3 arg4 harg4 arg5 harg5 arg6 harg6 arg7 harg7 arg8 harg8 hc0 x0 x1 x2 x3 xs0 = outCodes x0 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 xs0)]
  funext y
  refine View.canon_apply_of_pieces (outCodes x0) _ ?_ y (cover0_B_5 c i arg1 harg1 arg2 harg2 arg3 harg3 arg4 harg4 arg5 harg5 arg6 harg6 arg7 harg7 arg8 harg8 hc0 x0 x1 x2 x3 xs0 y)
  unfold kernelRun0_B
  dsimp only
  simp only [kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, byte0_B, byte1_B, View.readAt_eq_ld, harg1.read_unread, ld0, ld1, ld2, ld3, ld4, ld5, ld6, ld7, ld8]
  simp only [List.forall_mem_cons, List.not_mem_nil, false_imp_iff, implies_true, and_true]
  exact ⟨fun y => codes_at x0 8 1024 rfl _ y, fun y => codes_at x0 7 896 rfl _ y, fun y => codes_at x0 6 768 rfl _ y,
    fun y => codes_at x0 5 640 rfl _ y, fun y => codes_at x0 4 512 rfl _ y, fun y => codes_at x0 3 384 rfl _ y,
    fun y => codes_at x0 2 256 rfl _ y, fun y => codes_at x0 1 128 rfl _ y, fun y => codes_at x0 0 0 rfl _ y⟩

/-- The third result at the later points. -/
theorem out6_B (c : Dev nD) (i : grid0.Coords) (arg1 : Memref sig .tc .vmem S512x1152 .bf16) (harg1 : arg1.IsWhole) (arg2 : Memref sig .tc .vmem S1024x1152 .fp8e4m3) (harg2 : arg2.IsWhole) (arg3 : Memref sig .tc .vmem S1024x36 .i8) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1152 .fp8e4m3) (harg6 : arg6.IsWhole) (arg7 : Memref sig .tc .vmem S512x36 .i8) (harg7 : arg7.IsWhole) (arg8 : Memref sig .tc .vmem S1024x1152 .bf16) (harg8 : arg8.IsWhole) (hc0 : ¬cond0_0 i)
    (x0 : Vec Ideal S512x1152 .bf16) (x1 : Vec Ideal S1024x1152 .fp8e4m3) (x2 : Vec Ideal S1024x36 .i8) (x3 : Vec Ideal S1x1024 .f32) (xs0 : Vec Ideal S1024x1152 .bf16) : out0_B_6 (F := Ideal) c i arg1 harg1 arg2 harg2 arg3 harg3 arg4 harg4 arg5 harg5 arg6 harg6 arg7 harg7 arg8 harg8 hc0 x0 x1 x2 x3 xs0 = outBytes x0 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 xs0)]
  unfold kernelRun0_B
  dsimp only
  rw [View.canon_unit_zero hz]
  simp only [byte0_B, byte1_B]
  unfold kernelRun0_B.sl.v906 outBytes lanes
  rfl

/-- A load of 128 lanes of the weights from the array just stored whole. -/
theorem readCov_wSlab (v : View sig .tc .vmem S1024x1152 .bf16) (W : FVec Ideal S1024x1152 .bf16) (j : Fin 9) (o : ℕ) (ho : o = 128 * j.val) (inb inb0) :
    v.readCov (Val := Elt Ideal) [⟨Rect.unit (s := S1024x1152) ![0, 0] S1024x1152.size inb0, W⟩] (Rect.unit (s := S1024x1152) ![0, o] S1024x128.size inb).toLoadRect = wSlab W j := by
  rw [View.readCov_eq_canon', View.canon_unit_zero hz]
  exact ld_wSlab W j o ho inb

section W
variable (c : Dev nD) (arg2 : Memref sig .tc .vmem S1024x1152 .fp8e4m3) (harg2 : arg2.IsWhole) (arg3 : Memref sig .tc .vmem S1024x36 .i8) (harg3 : arg3.IsWhole) (arg8 : Memref sig .tc .vmem S1024x1152 .bf16) (harg8 : arg8.IsWhole)
  (x1 : Vec Ideal S1024x1152 .fp8e4m3) (x2 : Vec Ideal S1024x36 .i8)

/-- What the first point stores into the weight scratch: the dequantised weights. -/
theorem stored_A : kernelRun0_A.sl.HS0_1 (F := Ideal) c arg2 harg2 arg3 harg3 x1 x2
    = [⟨Rect.unit ![0, 0] S1024x1152.size inb_S1024x1152_S1024x1152_0_0, k0_pay2 x2 x1⟩] := by
  unfold kernelRun0_A.sl.HS0_1
  simp only [View.readAt_eq_ld, harg2.read_unread, harg3.read_unread, View.ld_unit_zero (S := S1024x1152) hz, View.ld_unit_zero (S := S1024x36) hz]

/-- Slab 0 of the weights as the first point loads it. -/
theorem w0_A : kernelRun0_A.sl.v530 (F := Ideal) c arg2 harg2 arg3 harg3 arg8 x1 x2 = wSlab (k0_pay2 x2 x1) 0 := by
  unfold kernelRun0_A.sl.v530
  rw [stored_A]
  exact readCov_wSlab _ _ 0 0 rfl _ _

/-- Slab 1 of the weights as the first point loads it. -/
theorem w1_A : kernelRun0_A.sl.v575 (F := Ideal) c arg2 harg2 arg3 harg3 arg8 x1 x2 = wSlab (k0_pay2 x2 x1) 1 := by
  unfold kernelRun0_A.sl.v575
  rw [stored_A]
  exact readCov_wSlab _ _ 1 128 rfl _ _

/-- Slab 2 of the weights as the first point loads it. -/
theorem w2_A : kernelRun0_A.sl.v621 (F := Ideal) c arg2 harg2 arg3 harg3 arg8 x1 x2 = wSlab (k0_pay2 x2 x1) 2 := by
  unfold kernelRun0_A.sl.v621
  rw [stored_A]
  exact readCov_wSlab _ _ 2 256 rfl _ _

/-- Slab 3 of the weights as the first point loads it. -/
theorem w3_A : kernelRun0_A.sl.v667 (F := Ideal) c arg2 harg2 arg3 harg3 arg8 x1 x2 = wSlab (k0_pay2 x2 x1) 3 := by
  unfold kernelRun0_A.sl.v667
  rw [stored_A]
  exact readCov_wSlab _ _ 3 384 rfl _ _

/-- Slab 4 of the weights as the first point loads it. -/
theorem w4_A : kernelRun0_A.sl.v713 (F := Ideal) c arg2 harg2 arg3 harg3 arg8 x1 x2 = wSlab (k0_pay2 x2 x1) 4 := by
  unfold kernelRun0_A.sl.v713
  rw [stored_A]
  exact readCov_wSlab _ _ 4 512 rfl _ _

/-- Slab 5 of the weights as the first point loads it. -/
theorem w5_A : kernelRun0_A.sl.v759 (F := Ideal) c arg2 harg2 arg3 harg3 arg8 x1 x2 = wSlab (k0_pay2 x2 x1) 5 := by
  unfold kernelRun0_A.sl.v759
  rw [stored_A]
  exact readCov_wSlab _ _ 5 640 rfl _ _

/-- Slab 6 of the weights as the first point loads it. -/
theorem w6_A : kernelRun0_A.sl.v805 (F := Ideal) c arg2 harg2 arg3 harg3 arg8 x1 x2 = wSlab (k0_pay2 x2 x1) 6 := by
  unfold kernelRun0_A.sl.v805
  rw [stored_A]
  exact readCov_wSlab _ _ 6 768 rfl _ _

/-- Slab 7 of the weights as the first point loads it. -/
theorem w7_A : kernelRun0_A.sl.v851 (F := Ideal) c arg2 harg2 arg3 harg3 arg8 x1 x2 = wSlab (k0_pay2 x2 x1) 7 := by
  unfold kernelRun0_A.sl.v851
  rw [stored_A]
  exact readCov_wSlab _ _ 7 896 rfl _ _

/-- Slab 8 of the weights as the first point loads it. -/
theorem w8_A : kernelRun0_A.sl.v897 (F := Ideal) c arg2 harg2 arg3 harg3 arg8 x1 x2 = wSlab (k0_pay2 x2 x1) 8 := by
  unfold kernelRun0_A.sl.v897
  rw [stored_A]
  exact readCov_wSlab _ _ 8 1024 rfl _ _

end W

/-! ## The first point -/

section A
variable (c : Dev nD) (arg1 : Memref sig .tc .vmem S512x1152 .bf16) (harg1 : arg1.IsWhole) (x0 : Vec Ideal S512x1152 .bf16)

/-- The even rows' scale bytes at the first point. -/
theorem byte0_A : kernelRun0_A.sl.r_36 (F := Ideal) c arg1 harg1 x0 = byte 0 x0 := by
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, View.readAt_eq_ld, harg1.read_unread, ld0, ld1, ld2, ld3, ld4, ld5, ld6, ld7, ld8]
  exact (byte_lo _ _ _).trans (congrArg scaleByte (amax_lo _ _ _ _ _ _ _ _ _))

/-- The odd rows' scale bytes at the first point. -/
theorem byte1_A : kernelRun0_A.sl.r_37 (F := Ideal) c arg1 harg1 x0 = byte 1 x0 := by
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, View.readAt_eq_ld, harg1.read_unread, ld0, ld1, ld2, ld3, ld4, ld5, ld6, ld7, ld8]
  exact (byte_hi _).trans (congrArg scaleByte (amax_hi _ _ _ _ _ _ _ _ _))
end A

/-- The first result at the first point. -/
theorem out4_A (c : Dev nD) (i : grid0.Coords) (arg1 : Memref sig .tc .vmem S512x1152 .bf16) (harg1 : arg1.IsWhole) (arg2 : Memref sig .tc .vmem S1024x1152 .fp8e4m3) (harg2 : arg2.IsWhole) (arg3 : Memref sig .tc .vmem S1024x36 .i8) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1152 .fp8e4m3) (harg6 : arg6.IsWhole) (arg7 : Memref sig .tc .vmem S512x36 .i8) (harg7 : arg7.IsWhole) (arg8 : Memref sig .tc .vmem S1024x1152 .bf16) (harg8 : arg8.IsWhole) (hc0 : cond0_0 i)
    (x0 : Vec Ideal S512x1152 .bf16) (x1 : Vec Ideal S1024x1152 .fp8e4m3) (x2 : Vec Ideal S1024x36 .i8) (x3 : Vec Ideal S1x1024 .f32) : out0_A_4 (F := Ideal) c i arg1 harg1 arg2 harg2 arg3 harg3 arg4 harg4 arg5 harg5 arg6 harg6 arg7 harg7 arg8 harg8 hc0 x0 x1 x2 x3 = outY x0 (k0_pay2 x2 x1) x3 := by
  unfold out0_A_4
  rw [View.read_writes_eq_canon _ _ _ (cover0_A_4 c i arg1 harg1 arg2 harg2 arg3 harg3 arg4 harg4 arg5 harg5 arg6 harg6 arg7 harg7 arg8 harg8 hc0 x0 x1 x2 x3)]
  unfold kernelRun0_A
  dsimp only
  rw [View.canon_unit_zero hz]
  simp only [kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, byte0_A, byte1_A, View.readAt_eq_ld, harg1.read_unread, harg8.read_unread, harg4.read_unread, ld0, ld1, ld2, ld3, ld4, ld5, ld6, ld7, ld8, w0_A, w1_A, w2_A, w3_A, w4_A, w5_A, w6_A, w7_A, w8_A]
  have hb : View.ld x3 (Rect.unit ![0, 0] ![1, 1024] inb_S1x1024_S1x1024_0_0) = x3 := View.ld_unit_zero (S := S1x1024) hz _ _
  rw [hb]
  unfold outY kernelRun0_A.sl.cst_245
  rw [part8, part7, part6, part5, part4, part3, part2, part1, part0]
  rfl

/-- The second result at the first point. -/
theorem out5_A (c : Dev nD) (i : grid0.Coords) (arg1 : Memref sig .tc .vmem S512x1152 .bf16) (harg1 : arg1.IsWhole) (arg2 : Memref sig .tc .vmem S1024x1152 .fp8e4m3) (harg2 : arg2.IsWhole) (arg3 : Memref sig .tc .vmem S1024x36 .i8) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1152 .fp8e4m3) (harg6 : arg6.IsWhole) (arg7 : Memref sig .tc .vmem S512x36 .i8) (harg7 : arg7.IsWhole) (arg8 : Memref sig .tc .vmem S1024x1152 .bf16) (harg8 : arg8.IsWhole) (hc0 : cond0_0 i)
    (x0 : Vec Ideal S512x1152 .bf16) (x1 : Vec Ideal S1024x1152 .fp8e4m3) (x2 : Vec Ideal S1024x36 .i8) (x3 : Vec Ideal S1x1024 .f32) : out0_A_5 (F := Ideal) c i arg1 harg1 arg2 harg2 arg3 harg3 arg4 harg4 arg5 harg5 arg6 harg6 arg7 harg7 arg8 harg8 hc0 x0 x1 x2 x3 = outCodes x0 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3)]
  funext y
  refine View.canon_apply_of_pieces (outCodes x0) _ ?_ y (cover0_A_5 c i arg1 harg1 arg2 harg2 arg3 harg3 arg4 harg4 arg5 harg5 arg6 harg6 arg7 harg7 arg8 harg8 hc0 x0 x1 x2 x3 y)
  unfold kernelRun0_A
  dsimp only
  simp only [kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, byte0_A, byte1_A, View.readAt_eq_ld, harg1.read_unread, ld0, ld1, ld2, ld3, ld4, ld5, ld6, ld7, ld8]
  simp only [List.forall_mem_cons, List.not_mem_nil, false_imp_iff, implies_true, and_true]
  exact ⟨fun y => codes_at x0 8 1024 rfl _ y, fun y => codes_at x0 7 896 rfl _ y, fun y => codes_at x0 6 768 rfl _ y,
    fun y => codes_at x0 5 640 rfl _ y, fun y => codes_at x0 4 512 rfl _ y, fun y => codes_at x0 3 384 rfl _ y,
    fun y => codes_at x0 2 256 rfl _ y, fun y => codes_at x0 1 128 rfl _ y, fun y => codes_at x0 0 0 rfl _ y⟩

/-- The third result at the first point. -/
theorem out6_A (c : Dev nD) (i : grid0.Coords) (arg1 : Memref sig .tc .vmem S512x1152 .bf16) (harg1 : arg1.IsWhole) (arg2 : Memref sig .tc .vmem S1024x1152 .fp8e4m3) (harg2 : arg2.IsWhole) (arg3 : Memref sig .tc .vmem S1024x36 .i8) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1152 .fp8e4m3) (harg6 : arg6.IsWhole) (arg7 : Memref sig .tc .vmem S512x36 .i8) (harg7 : arg7.IsWhole) (arg8 : Memref sig .tc .vmem S1024x1152 .bf16) (harg8 : arg8.IsWhole) (hc0 : cond0_0 i)
    (x0 : Vec Ideal S512x1152 .bf16) (x1 : Vec Ideal S1024x1152 .fp8e4m3) (x2 : Vec Ideal S1024x36 .i8) (x3 : Vec Ideal S1x1024 .f32) : out0_A_6 (F := Ideal) c i arg1 harg1 arg2 harg2 arg3 harg3 arg4 harg4 arg5 harg5 arg6 harg6 arg7 harg7 arg8 harg8 hc0 x0 x1 x2 x3 = outBytes x0 := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3)]
  unfold kernelRun0_A
  dsimp only
  rw [View.canon_unit_zero hz]
  simp only [byte0_A, byte1_A]
  unfold kernelRun0_A.sl.v906 outBytes lanes
  rfl

/-- What the first point leaves in the weight scratch. -/
theorem scratch_A (c : Dev nD) (i : grid0.Coords) (arg1 : Memref sig .tc .vmem S512x1152 .bf16) (harg1 : arg1.IsWhole) (arg2 : Memref sig .tc .vmem S1024x1152 .fp8e4m3) (harg2 : arg2.IsWhole) (arg3 : Memref sig .tc .vmem S1024x36 .i8) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S512x1152 .fp8e4m3) (harg6 : arg6.IsWhole) (arg7 : Memref sig .tc .vmem S512x36 .i8) (harg7 : arg7.IsWhole) (arg8 : Memref sig .tc .vmem S1024x1152 .bf16) (harg8 : arg8.IsWhole) (hc0 : cond0_0 i)
    (x0 : Vec Ideal S512x1152 .bf16) (x1 : Vec Ideal S1024x1152 .fp8e4m3) (x2 : Vec Ideal S1024x36 .i8) (x3 : Vec Ideal S1x1024 .f32) : sout0_A_0 (F := Ideal) c i arg1 harg1 arg2 harg2 arg3 harg3 arg4 harg4 arg5 harg5 arg6 harg6 arg7 harg7 arg8 harg8 hc0 x0 x1 x2 x3 = k0_pay2 x2 x1 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3)]
  unfold kernelRun0_A
  dsimp only
  rw [stored_A, View.canon_unit_zero hz]

end Cert.KernelIdeal.Opened
-- ==== Proof.KernelRun.lean ====
/-
The run of the kernel, with each result array as a function of the arguments: every row of a result is
read off its tile of 512 rows.
-/
module

public import proofs.«01_k».proof.Proof.Opened

set_option maxRecDepth 16384

@[expose] public section

noncomputable section

namespace Cert.KernelIdeal.Run

open Cert.KernelIdeal Cert.KernelIdeal.Gen Cert.KernelIdeal.Tiles Cert.KernelIdeal.Opened Idealize.ShloMosaic Idealize.ShloMosaic.TcCoe Idealize.SL.Sem
open Idealize.ShloMosaic.Pipeline (Dat)

section Args
variable {F : FTy → Type} [FloatOps F]
variable (m : (ℓ : Loc nD τ sig) → Buf (Elt F) ℓ)

/-- The first input of the call is argument 0 laid out as 24576 rows. -/
theorem V_main_v0 (c : Dev nD) : V m c main_v0 = shapeCast S24576x1152 (m ((c : Thread nD τ).loc main_arg0)) shapeCasts_S8x3072x1152_S24576x1152 := by
  show StableHlo.after hostOps0 _ (Proc.devRef .tc main_v0) = _
  after_results
  rfl

/-- The fourth input of the call is argument 3 laid out as one row. -/
theorem V_main_v1 (c : Dev nD) : V m c main_v1 = shapeCast S1x1024 (m ((c : Thread nD τ).loc main_arg3)) shapeCasts_S1024_S1x1024 := by
  show StableHlo.after hostOps0 _ (Proc.devRef .tc main_v1) = _
  after_results
  rfl

/-- Argument 0 laid out as 24576 rows of 1152 numbers. -/
def rows (c : Dev nD) : Vec F S24576x1152 .bf16 := shapeCast S24576x1152 (m ((c : Thread nD τ).loc main_arg0)) shapeCasts_S8x3072x1152_S24576x1152
/-- Argument 1, the weight codes. -/
def wCodes (c : Dev nD) : Vec F S1024x1152 .fp8e4m3 := m ((c : Thread nD τ).loc main_arg1)
/-- Argument 2, the weight scale bytes. -/
def wScales (c : Dev nD) : Vec F S1024x36 .i8 := m ((c : Thread nD τ).loc main_arg2)
/-- Argument 3 laid out as one row, the bias. -/
def bias (c : Dev nD) : Vec F S1x1024 .f32 := shapeCast S1x1024 (m ((c : Thread nD τ).loc main_arg3)) shapeCasts_S1024_S1x1024

/-- Tile `t` of the rows: rows `512 t` to `512 t + 511`. -/
def tile (X : Vec F S24576x1152 .bf16) (t : Fin 48) : Vec F S512x1152 .bf16 :=
  fun i => X (ix2 (⟨512 * t.val + (i 0).val, by have : (i 0).val < 512 := (i 0).isLt; have := t.isLt; omega⟩ : Fin 24576) (i 1 : Fin 1152))

/-- The first input's block moves down one tile with each point. -/
theorem idx0 : ∀ t : Fin cfg0.N, win0_0.index t (0 : Fin 2) = t.val ∧ win0_0.index t (1 : Fin 2) = 0 :=
  (by decide +kernel : ∀ t : Fin grid0.N, _)

/-- The block of the first input at point `t` is tile `t`. -/
theorem iblk0_eq (c : Dev nD) (t : Fin cfg0.N) : (iblk m c 0 t : Vec F S512x1152 .bf16) = tile (rows m c) t := by
  unfold rows
  rw [← V_main_v0 m c]
  funext y
  show V m c main_v0 (((cfg0.win 0).blk t).view.emb y) = V m c main_v0 _
  obtain ⟨e0, e1⟩ := idx0 t
  refine congrArg _ ?_
  funext a
  fin_cases a <;> apply Fin.ext
  · show win0_0.index t (0 : Fin 2) * 512 + 1 * (y 0).val = 512 * t.val + (y 0).val
    omega
  · show win0_0.index t (1 : Fin 2) * 1152 + 1 * (y 1).val = (y 1).val
    omega

/-- The index map of input window 1 is constant. -/
theorem idx1 : ∀ t : Fin cfg0.N, win0_1.index t (0 : Fin 2) = 0 ∧ win0_1.index t (1 : Fin 2) = 0 :=
  (by decide +kernel : ∀ t : Fin grid0.N, _)

/-- The block of the second input is the whole of argument 1. -/
theorem iblk1_eq (c : Dev nD) (t : Fin cfg0.N) :
    (iblk m c 1 t : Vec F S1024x1152 .fp8e4m3) = wCodes m c := by
  unfold wCodes
  rw [← V_main_arg1 m c]
  funext y
  show V m c main_arg1 (((cfg0.win 1).blk t).view.emb y) = V m c main_arg1 y
  obtain ⟨e0, e1⟩ := idx1 t
  refine congrArg _ ?_
  funext a
  fin_cases a <;> apply Fin.ext
  · show win0_1.index t (0 : Fin 2) * 1024 + 1 * (y 0).val = (y 0).val
    omega
  · show win0_1.index t (1 : Fin 2) * 1152 + 1 * (y 1).val = (y 1).val
    omega

/-- The index map of input window 2 is constant. -/
theorem idx2 : ∀ t : Fin cfg0.N, win0_2.index t (0 : Fin 2) = 0 ∧ win0_2.index t (1 : Fin 2) = 0 :=
  (by decide +kernel : ∀ t : Fin grid0.N, _)

/-- The block of the third input is the whole of argument 2. -/
theorem iblk2_eq (c : Dev nD) (t : Fin cfg0.N) :
    (iblk m c 2 t : Vec F S1024x36 .i8) = wScales m c := by
  unfold wScales
  rw [← V_main_arg2 m c]
  funext y
  show V m c main_arg2 (((cfg0.win 2).blk t).view.emb y) = V m c main_arg2 y
  obtain ⟨e0, e1⟩ := idx2 t
  refine congrArg _ ?_
  funext a
  fin_cases a <;> apply Fin.ext
  · show win0_2.index t (0 : Fin 2) * 1024 + 1 * (y 0).val = (y 0).val
    omega
  · show win0_2.index t (1 : Fin 2) * 36 + 1 * (y 1).val = (y 1).val
    omega

/-- The index map of input window 3 is constant. -/
theorem idx3 : ∀ t : Fin cfg0.N, win0_3.index t (0 : Fin 2) = 0 ∧ win0_3.index t (1 : Fin 2) = 0 :=
  (by decide +kernel : ∀ t : Fin grid0.N, _)

/-- The block of the fourth input is argument 3 as one row. -/
theorem iblk3_eq (c : Dev nD) (t : Fin cfg0.N) :
    (iblk m c 3 t : Vec F S1x1024 .f32) = bias m c := by
  unfold bias
  rw [← V_main_v1 m c]
  funext y
  show V m c main_v1 (((cfg0.win 3).blk t).view.emb y) = V m c main_v1 y
  obtain ⟨e0, e1⟩ := idx3 t
  refine congrArg _ ?_
  funext a
  fin_cases a <;> apply Fin.ext
  · show win0_3.index t (0 : Fin 2) * 1 + 1 * (y 0).val = (y 0).val
    omega
  · show win0_3.index t (1 : Fin 2) * 1024 + 1 * (y 1).val = (y 1).val
    omega

end Args

variable (m : (ℓ : Loc nD τ sig) → Buf (Elt Ideal) ℓ) (ρ : Dev nD → PrngReg)

/-- The dequantised weights. -/
def weights (c : Dev nD) : FVec Ideal S1024x1152 .bf16 := k0_pay2 (wScales m c) (wCodes m c)

/-- What point `t` leaves: its tile's three results, and the dequantised weights in the scratch. -/
theorem outs (c : Dev nD) : ∀ (n : ℕ) (h : n < cfg0.N), outsAt0 m c n h
    = (outY (tile (rows m c) ⟨n, h⟩) (weights m c) (bias m c), outCodes (tile (rows m c) ⟨n, h⟩),
        outBytes (tile (rows m c) ⟨n, h⟩), weights m c)
  | 0, h => by
    rw [outsAt0_A m c ⟨0, h⟩ rfl, out4_A, out5_A, out6_A, scratch_A, iblk0_eq, iblk1_eq, iblk2_eq, iblk3_eq]
    rfl
  | n + 1, h => by
    have hn : ¬ (n + 1) % 48 = 0 := by have : n + 1 < 48 := h; omega
    have ih := outs c n (by omega)
    rw [outsAt0_B m c ⟨n + 1, h⟩ hn, out4_B, out5_B, out6_B, iblk0_eq, iblk3_eq]
    show (outY _ (outsAt0 m c n _).2.2.2 _, _, _, (outsAt0 m c n _).2.2.2) = _
    rw [ih]
    rfl

/-- The first result as one function of the arguments. -/
def res4 (c : Dev nD) : Vec Ideal S24576x1024 .bf16 := fun i =>
  outY (tile (rows m c) ⟨(i 0).val / 512, by have : (i 0).val < 24576 := (i 0).isLt; omega⟩) (weights m c) (bias m c) (ix2 (⟨(i 0).val % 512, Nat.mod_lt _ (by decide)⟩ : Fin 512) (i 1 : Fin 1024))

/-- The array of output window 4 after the run. -/
theorem G4_eq (c : Dev nD) : Value.G4 m c = res4 m c := by
  funext i
  have h0 : (i 0).val < 24576 := (i 0).isLt
  have h1 : (i 1).val < 1024 := (i 1).isLt
  have hp : Value.pt4Of i = (i 0).val / 512 := by
    show 1 * ((i 0).val / 512 - 0) + 1 * ((i 1).val / 1024 - 0) = _
    omega
  have hN : Value.pt4Of i < cfg0.N := by rw [hp]; show _ < 48; omega
  have hl : Value.loc4Of i = ix2 (⟨(i 0).val % 512, Nat.mod_lt _ (by decide)⟩ : Fin 512) (i 1 : Fin 1024) := by
    funext a
    fin_cases a <;> apply Fin.ext
    · rfl
    · show (i 1).val % 1024 = (i 1).val
      omega
  unfold Value.G4 res4
  rw [dif_pos hN, ← Value.outsAt0_sweep m c _ (by omega), outs, hl]
  exact congrArg (fun k : Fin 48 => outY (tile (rows m c) k) (weights m c) (bias m c) (ix2 (⟨(i 0).val % 512, Nat.mod_lt _ (by decide)⟩ : Fin 512) (i 1 : Fin 1024))) (Fin.ext hp)

/-- The second result as one function of the arguments. -/
def res5 (c : Dev nD) : Vec Ideal S24576x1152 .fp8e4m3 := fun i =>
  outCodes (tile (rows m c) ⟨(i 0).val / 512, by have : (i 0).val < 24576 := (i 0).isLt; omega⟩) (ix2 (⟨(i 0).val % 512, Nat.mod_lt _ (by decide)⟩ : Fin 512) (i 1 : Fin 1152))

/-- The array of output window 5 after the run. -/
theorem G5_eq (c : Dev nD) : Value.G5 m c = res5 m c := by
  funext i
  have h0 : (i 0).val < 24576 := (i 0).isLt
  have h1 : (i 1).val < 1152 := (i 1).isLt
  have hp : Value.pt5Of i = (i 0).val / 512 := by
    show 1 * ((i 0).val / 512 - 0) + 1 * ((i 1).val / 1152 - 0) = _
    omega
  have hN : Value.pt5Of i < cfg0.N := by rw [hp]; show _ < 48; omega
  have hl : Value.loc5Of i = ix2 (⟨(i 0).val % 512, Nat.mod_lt _ (by decide)⟩ : Fin 512) (i 1 : Fin 1152) := by
    funext a
    fin_cases a <;> apply Fin.ext
    · rfl
    · show (i 1).val % 1152 = (i 1).val
      omega
  unfold Value.G5 res5
  rw [dif_pos hN, ← Value.outsAt0_sweep m c _ (by omega), outs, hl]
  exact congrArg (fun k : Fin 48 => outCodes (tile (rows m c) k) (ix2 (⟨(i 0).val % 512, Nat.mod_lt _ (by decide)⟩ : Fin 512) (i 1 : Fin 1152))) (Fin.ext hp)

/-- The third result as one function of the arguments. -/
def res6 (c : Dev nD) : Vec Ideal S24576x36 .i8 := fun i =>
  outBytes (tile (rows m c) ⟨(i 0).val / 512, by have : (i 0).val < 24576 := (i 0).isLt; omega⟩) (ix2 (⟨(i 0).val % 512, Nat.mod_lt _ (by decide)⟩ : Fin 512) (i 1 : Fin 36))

/-- The array of output window 6 after the run. -/
theorem G6_eq (c : Dev nD) : Value.G6 m c = res6 m c := by
  funext i
  have h0 : (i 0).val < 24576 := (i 0).isLt
  have h1 : (i 1).val < 36 := (i 1).isLt
  have hp : Value.pt6Of i = (i 0).val / 512 := by
    show 1 * ((i 0).val / 512 - 0) + 1 * ((i 1).val / 36 - 0) = _
    omega
  have hN : Value.pt6Of i < cfg0.N := by rw [hp]; show _ < 48; omega
  have hl : Value.loc6Of i = ix2 (⟨(i 0).val % 512, Nat.mod_lt _ (by decide)⟩ : Fin 512) (i 1 : Fin 36) := by
    funext a
    fin_cases a <;> apply Fin.ext
    · rfl
    · show (i 1).val % 36 = (i 1).val
      omega
  unfold Value.G6 res6
  rw [dif_pos hN, ← Value.outsAt0_sweep m c _ (by omega), outs, hl]
  exact congrArg (fun k : Fin 48 => outBytes (tile (rows m c) k) (ix2 (⟨(i 0).val % 512, Nat.mod_lt _ (by decide)⟩ : Fin 512) (i 1 : Fin 36))) (Fin.ext hp)

/-- The run of the kernel: the three results as functions of the arguments, the arguments kept. -/
theorem run : θ_run defs (onTc (τ := τ) (main (F := Ideal))) ⟨m, fun _ => 0, ρ⟩ fun r => ∀ c : Dev nD,
      r.2.mem ((c : Thread nD τ).loc main_v2_0) = res4 m c
      ∧ r.2.mem ((c : Thread nD τ).loc main_v2_1) = res5 m c
      ∧ r.2.mem ((c : Thread nD τ).loc main_v2_2) = res6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (G4_eq m c), (h c).2.1.trans (G5_eq m c), (h c).2.2.1.trans (G6_eq m c), (h c).2.2.2⟩)
    (Value.run m ρ)

end Cert.KernelIdeal.Run
-- ==== Proof.RefRun.lean ====
/-
The run of the reference program, with each result array and each input block named by the
arguments.  The reference is one kernel call without a grid, so each window is the whole array.
-/
module

public import proofs.«01_k».proof.Proof.Gen.ReferenceIdeal.Frame
public import Idealize.ShloMosaic.Lib.Pipeline.Value
public import Idealize.ShloMosaic.Lib.Pointwise

@[expose] public section

set_option maxRecDepth 16384

noncomputable section

namespace Cert.ReferenceIdeal.RefRun

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_2) = (dats m 0 c).arrAt 6 cfg0.N :=
  (h c).1 6

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_v2_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

/-! ## The arguments as the kernel call finds them -/

/-- The first input of the call is argument 0 laid out as 24576 rows. -/
theorem V_main_v0 (c : Dev nD) : V m c main_v0 = shapeCast S24576x1152 (m ((c : Thread nD τ).loc main_arg0)) shapeCasts_S8x3072x1152_S24576x1152 := by
  show StableHlo.after hostOps0 _ (Proc.devRef .tc main_v0) = _
  after_results
  rfl

/-- The fourth input of the call is argument 3 laid out as one row. -/
theorem V_main_v1 (c : Dev nD) : V m c main_v1 = shapeCast S1x1024 (m ((c : Thread nD τ).loc main_arg3)) shapeCasts_S1024_S1x1024 := by
  show StableHlo.after hostOps0 _ (Proc.devRef .tc main_v1) = _
  after_results
  rfl

/-- The block of the first input is the whole reshaped argument 0. -/
theorem iblk0_eq (c : Dev nD) (t : Fin cfg0.N) :
    (iblk m c 0 t : Vec F S24576x1152 .bf16) = shapeCast S24576x1152 (m ((c : Thread nD τ).loc main_arg0)) shapeCasts_S8x3072x1152_S24576x1152 := by
  rw [← V_main_v0 m c]
  funext y
  show V m c main_v0 (((cfg0.win 0).blk t).view.emb y) = V m c main_v0 y
  refine congrArg _ ?_
  funext a
  fin_cases t
  fin_cases a <;> apply Fin.ext
  · show 0 * 24576 + 1 * (y 0).val = (y 0).val
    omega
  · show 0 * 1152 + 1 * (y 1).val = (y 1).val
    omega

/-- The block of the second input is the whole of argument 1. -/
theorem iblk1_eq (c : Dev nD) (t : Fin cfg0.N) :
    (iblk m c 1 t : Vec F S1024x1152 .fp8e4m3) = m ((c : Thread nD τ).loc main_arg1) := by
  rw [← V_main_arg1 m c]
  funext y
  show V m c main_arg1 (((cfg0.win 1).blk t).view.emb y) = V m c main_arg1 y
  refine congrArg _ ?_
  funext a
  fin_cases t
  fin_cases a <;> apply Fin.ext
  · show 0 * 1024 + 1 * (y 0).val = (y 0).val
    omega
  · show 0 * 1152 + 1 * (y 1).val = (y 1).val
    omega

/-- The block of the third input is the whole of argument 2. -/
theorem iblk2_eq (c : Dev nD) (t : Fin cfg0.N) :
    (iblk m c 2 t : Vec F S1024x36 .i8) = m ((c : Thread nD τ).loc main_arg2) := by
  rw [← V_main_arg2 m c]
  funext y
  show V m c main_arg2 (((cfg0.win 2).blk t).view.emb y) = V m c main_arg2 y
  refine congrArg _ ?_
  funext a
  fin_cases t
  fin_cases a <;> apply Fin.ext
  · show 0 * 1024 + 1 * (y 0).val = (y 0).val
    omega
  · show 0 * 36 + 1 * (y 1).val = (y 1).val
    omega

/-- The block of the fourth input is argument 3 as one row. -/
theorem iblk3_eq (c : Dev nD) (t : Fin cfg0.N) :
    (iblk m c 3 t : Vec F S1x1024 .f32) = shapeCast S1x1024 (m ((c : Thread nD τ).loc main_arg3)) shapeCasts_S1024_S1x1024 := by
  rw [← V_main_v1 m c]
  funext y
  show V m c main_v1 (((cfg0.win 3).blk t).view.emb y) = V m c main_v1 y
  refine congrArg _ ?_
  funext a
  fin_cases t
  fin_cases a <;> apply Fin.ext
  · show 0 * 1 + 1 * (y 0).val = (y 0).val
    omega
  · show 0 * 1024 + 1 * (y 1).val = (y 1).val
    omega

/-! ## The results -/

/-- Argument 0 laid out as 24576 rows of 1152 numbers. -/
def rows (c : Dev nD) : Vec F S24576x1152 .bf16 := shapeCast S24576x1152 (m ((c : Thread nD τ).loc main_arg0)) shapeCasts_S8x3072x1152_S24576x1152
/-- Argument 1, the weight codes. -/
def wCodes (c : Dev nD) : Vec F S1024x1152 .fp8e4m3 := m ((c : Thread nD τ).loc main_arg1)
/-- Argument 2, the weight scale bytes. -/
def wScales (c : Dev nD) : Vec F S1024x36 .i8 := m ((c : Thread nD τ).loc main_arg2)
/-- Argument 3 laid out as one row, the bias. -/
def bias (c : Dev nD) : Vec F S1x1024 .f32 := shapeCast S1x1024 (m ((c : Thread nD τ).loc main_arg3)) shapeCasts_S1024_S1x1024

/-- The only point of the call. -/
abbrev pt : Fin cfg0.N := ⟨0, by decide⟩

/-- The two zero offsets of a whole-array rectangle. -/
theorem hz : (![0, 0] : Fin 2 → Nat) = fun _ => 0 := by
  funext a; fin_cases a <;> rfl

/-- The block of output window 4 is the whole array. -/
theorem emb4 (i : S24576x1024.Idx) : ((cfg0.win 4).blk pt).view.emb i = i := by
  funext a
  fin_cases a <;> apply Fin.ext
  · show 0 * 24576 + 1 * (i 0).val = (i 0).val
    omega
  · show 0 * 1024 + 1 * (i 1).val = (i 1).val
    omega

/-- The first result after the run: the scaled block products summed, plus the bias. -/
theorem arr4_eq (c : Dev nD) : (dats m 0 c).arrAt 4 cfg0.N = k0_pay1 (k0_pay5 (rows m c)) (k0_pay6 (rows m c) (wCodes m c)) (wScales m c) (bias m c) := by
  refine (dats m 0 c).arrAt_eq_of_cover 4 _ (fun t hf => ?_) (fun i => ⟨pt, by decide, ?_⟩)
  · obtain rfl : t = pt := by fin_cases t; rfl
    rw [flushed4, iblk0_eq, iblk1_eq, iblk2_eq, iblk3_eq]
    funext y
    show out0_4 (rows m c) (wCodes m c) (wScales m c) (bias m c) y = (k0_pay1 (k0_pay5 (rows m c)) (k0_pay6 (rows m c) (wCodes m c)) (wScales m c) (bias m c) : Vec F S24576x1024 .bf16) (((cfg0.win 4).blk pt).view.emb y)
    rw [emb4 y]
    unfold_out out0_4
    rw [View.canon_unit_zero hz]
    simp only [View.ld_unit_zero (S := S24576x1152) hz, View.ld_unit_zero (S := S1024x1152) hz, View.ld_unit_zero (S := S1024x36) hz, View.ld_unit_zero (S := S1x1024) hz]
  · have h := ((cfg0.win 4).blk pt).view.emb_mem_set i
    rw [emb4 i] at h
    exact h

/-- The block of output window 5 is the whole array. -/
theorem emb5 (i : S24576x1152.Idx) : ((cfg0.win 5).blk pt).view.emb i = i := by
  funext a
  fin_cases a <;> apply Fin.ext
  · show 0 * 24576 + 1 * (i 0).val = (i 0).val
    omega
  · show 0 * 1152 + 1 * (i 1).val = (i 1).val
    omega

/-- The second result after the run: the codes of the rows. -/
theorem arr5_eq (c : Dev nD) : (dats m 0 c).arrAt 5 cfg0.N = k0_pay4 (rows m c) := by
  refine (dats m 0 c).arrAt_eq_of_cover 5 _ (fun t hf => ?_) (fun i => ⟨pt, by decide, ?_⟩)
  · obtain rfl : t = pt := by fin_cases t; rfl
    rw [flushed5, iblk0_eq, iblk1_eq, iblk2_eq, iblk3_eq]
    funext y
    show out0_5 (rows m c) (wCodes m c) (wScales m c) (bias m c) y = (k0_pay4 (rows m c) : Vec F S24576x1152 .fp8e4m3) (((cfg0.win 5).blk pt).view.emb y)
    rw [emb5 y]
    unfold_out out0_5
    rw [View.canon_unit_zero hz]
    simp only [View.ld_unit_zero (S := S24576x1152) hz, View.ld_unit_zero (S := S1024x1152) hz, View.ld_unit_zero (S := S1024x36) hz, View.ld_unit_zero (S := S1x1024) hz]
  · have h := ((cfg0.win 5).blk pt).view.emb_mem_set i
    rw [emb5 i] at h
    exact h

/-- The block of output window 6 is the whole array. -/
theorem emb6 (i : S24576x36.Idx) : ((cfg0.win 6).blk pt).view.emb i = i := by
  funext a
  fin_cases a <;> apply Fin.ext
  · show 0 * 24576 + 1 * (i 0).val = (i 0).val
    omega
  · show 0 * 36 + 1 * (i 1).val = (i 1).val
    omega

/-- The third result after the run: the scale bytes of the rows. -/
theorem arr6_eq (c : Dev nD) : (dats m 0 c).arrAt 6 cfg0.N = k0_pay5 (rows m c) := by
  refine (dats m 0 c).arrAt_eq_of_cover 6 _ (fun t hf => ?_) (fun i => ⟨pt, by decide, ?_⟩)
  · obtain rfl : t = pt := by fin_cases t; rfl
    rw [flushed6, iblk0_eq, iblk1_eq, iblk2_eq, iblk3_eq]
    funext y
    show out0_6 (rows m c) (wCodes m c) (wScales m c) (bias m c) y = (k0_pay5 (rows m c) : Vec F S24576x36 .i8) (((cfg0.win 6).blk pt).view.emb y)
    rw [emb6 y]
    unfold_out out0_6
    rw [View.canon_unit_zero hz]
    simp only [View.ld_unit_zero (S := S24576x1152) hz, View.ld_unit_zero (S := S1024x1152) hz, View.ld_unit_zero (S := S1024x36) hz, View.ld_unit_zero (S := S1x1024) hz]
  · have h := ((cfg0.win 6).blk pt).view.emb_mem_set i
    rw [emb6 i] at h
    exact h

/-- The run of the reference: the three results as functions of the arguments, the arguments kept. -/
theorem run : θ_run defs (onTc (τ := τ) (main (F := F))) ⟨m, fun _ => 0, ρ⟩ fun r => ∀ c : Dev nD,
      r.2.mem ((c : Thread nD τ).loc main_v2_0) = (k0_pay1 (k0_pay5 (rows m c)) (k0_pay6 (rows m c) (wCodes m c)) (wScales m c) (bias m c) : Vec F S24576x1024 .bf16)
      ∧ r.2.mem ((c : Thread nD τ).loc main_v2_1) = (k0_pay4 (rows m c) : Vec F S24576x1152 .fp8e4m3)
      ∧ r.2.mem ((c : Thread nD τ).loc main_v2_2) = (k0_pay5 (rows m c) : Vec F S24576x36 .i8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4_eq m c), (h c).2.1.trans (arr5_eq m c), (h c).2.2.1.trans (arr6_eq m c), (h c).2.2.2⟩)
    (run_blocks m ρ)

end Cert.ReferenceIdeal.RefRun
-- ==== Proof.Scales.lean ====
module

public import Idealize.ShloMosaic.Lib.Pointwise

set_option maxRecDepth 16384

@[expose] public section

noncomputable section

namespace Cert.Scales

open Idealize.ShloMosaic

/-- `e` is the exponent of the scale of a group whose largest magnitude is `a`. -/
def IsExp (a : EReal) (e : ℤ) : Prop :=
  -126 ≤ e ∧ e ≤ 120 ∧ ((a = 0 ∧ e = 0) ∨
    (((448 * (2 : ℝ) ^ (e - 1) : ℝ) : EReal) ≤ a ∧ a < ((448 * (2 : ℝ) ^ e : ℝ) : EReal)))

/-- Between the two bounds every magnitude has an exponent. -/
theorem exists_isExp {a : EReal} (h1 : a ≤ ((255 * (2 : ℝ) ^ (120 : ℤ) : ℝ) : EReal))
    (h2 : a = 0 ∨ ((448 * (2 : ℝ) ^ (-127 : ℤ) : ℝ) : EReal) ≤ a) : ∃ e, IsExp a e := by
  rcases h2 with h2 | h2
  · exact ⟨0, by norm_num, by norm_num, Or.inl ⟨h2, rfl⟩⟩
  · have hb : a ≠ ⊥ := by rintro rfl; exact absurd h2 (not_le.2 (EReal.bot_lt_coe _))
    have ht : a ≠ ⊤ := by rintro rfl; exact absurd h1 (not_le.2 (EReal.coe_lt_top _))
    lift a to ℝ using ⟨ht, hb⟩
    rw [EReal.coe_le_coe_iff] at h1 h2
    have hp : (0 : ℝ) < a / 448 := by
      have : (0 : ℝ) < 448 * (2 : ℝ) ^ (-127 : ℤ) := by positivity
      have := this.trans_le h2
      positivity
    obtain ⟨n, hn1, hn2⟩ := exists_mem_Ico_zpow hp (by norm_num : (1 : ℝ) < 2)
    refine ⟨n + 1, ?_, ?_, Or.inr ⟨?_, ?_⟩⟩
    · have : (2 : ℝ) ^ (-127 : ℤ) < 2 ^ (n + 1) := lt_of_le_of_lt ((le_div_iff₀' (by norm_num)).2 h2) hn2
      have := (zpow_lt_zpow_iff_right₀ (by norm_num : (1 : ℝ) < 2)).1 this
      omega
    · have : (2 : ℝ) ^ n < 2 ^ (120 : ℤ) := lt_of_le_of_lt hn1 ((div_lt_iff₀' (by norm_num)).2 (lt_of_le_of_lt h1
        (mul_lt_mul_of_pos_right (by norm_num) (by positivity))))
      have := (zpow_lt_zpow_iff_right₀ (by norm_num : (1 : ℝ) < 2)).1 this
      omega
    · rw [EReal.coe_le_coe_iff, add_sub_cancel_right]; linarith
    · rw [EReal.coe_lt_coe_iff]; linarith

/-! ### Powers of two from their words -/

/-- A format's value at a positive normal word. -/
theorem ieee_normal {w : ℕ} (e m : ℕ) (b : BitVec w) (E T : ℕ) (h1 : (b.extractLsb' m e).toNat = E)
    (h2 : (b.extractLsb' 0 m).toNat = T) (h3 : b.extractLsb' (e + m) 1 = 0#1) (hE : E ≠ 2 ^ e - 1) (hE0 : E ≠ 0) :
    Ideal.ieee e m b = ((((2 ^ m + T : ℕ) : ℝ) * (2 : ℝ) ^ ((E : ℤ) - (2 ^ (e - 1) - 1) - m) : ℝ) : EReal) := by
  unfold Ideal.ieee
  simp only [h1, h2, h3]
  rw [if_neg hE, if_neg hE0]
  simp

/-- A format's value at a positive word below the normal ones. -/
theorem ieee_small {w : ℕ} (e m : ℕ) (b : BitVec w) (T : ℕ) (h1 : (b.extractLsb' m e).toNat = 0)
    (h2 : (b.extractLsb' 0 m).toNat = T) (h3 : b.extractLsb' (e + m) 1 = 0#1) (hE : 0 ≠ 2 ^ e - 1) :
    Ideal.ieee e m b = (((T : ℝ) * (2 : ℝ) ^ ((1 : ℤ) - (2 ^ (e - 1) - 1) - m) : ℝ) : EReal) := by
  unfold Ideal.ieee
  simp only [h1, h2, h3]
  rw [if_neg hE, if_pos trivial]
  simp

/-- The 32-bit format has 8 exponent and 23 fraction bits. -/
theorem ofBits_f32 (b : BitVec 32) : Ideal.ofBits .f32 b = Ideal.ieee 8 23 b := rfl

/-- The 16-bit format has 8 exponent and 7 fraction bits. -/
theorem ofBits_bf16 (b : BitVec 16) : Ideal.ofBits .bf16 b = Ideal.ieee 8 7 b := rfl

/-- The fields of a word given as a number. -/
theorem field {w : ℕ} (x s l E : ℕ) (hx : x < 2 ^ w) (h : x / 2 ^ s % 2 ^ l = E) :
    ((BitVec.ofNat w x).extractLsb' s l).toNat = E := by
  rw [BitVec.extractLsb'_toNat, BitVec.toNat_ofNat, Nat.mod_eq_of_lt hx, Nat.shiftRight_eq_div_pow, h]

/-- The sign bit of a small number given as a word. -/
theorem sign {w : ℕ} (x s : ℕ) (hx : x < 2 ^ s) (hs : s ≤ w) : (BitVec.ofNat w x).extractLsb' s 1 = 0#1 := by
  apply BitVec.eq_of_toNat_eq
  rw [field x s 1 0 (hx.trans_le (Nat.pow_le_pow_right (by norm_num) hs)) (by rw [Nat.div_eq_of_lt hx, Nat.zero_mod])]
  rfl

/-- The value of a word that holds an exponent field and nothing else. -/
theorem f32_pow (n : ℕ) (h1 : 1 ≤ n) (h2 : n ≤ 254) :
    Ideal.ofBits .f32 (BitVec.ofNat 32 (n * 8388608)) = (((2 : ℝ) ^ ((n : ℤ) - 127) : ℝ) : EReal) := by
  rw [ofBits_f32, ieee_normal 8 23 _ n 0 (field _ _ _ _ (by omega) (by omega)) (field _ _ _ _ (by omega) (by omega))
    (sign _ _ (by omega) (by omega)) (by omega) (by omega)]
  congr 1
  rw [show ((2 ^ 23 + 0 : ℕ) : ℝ) = (2 : ℝ) ^ (23 : ℤ) by norm_num, ← zpow_add₀ (by norm_num)]
  congr 1; push_cast; ring

/-- The same in the sixteen-bit format. -/
theorem bf16_pow (n : ℕ) (h1 : 1 ≤ n) (h2 : n ≤ 254) :
    Ideal.ofBits .bf16 (BitVec.ofNat 16 (n * 128)) = (((2 : ℝ) ^ ((n : ℤ) - 127) : ℝ) : EReal) := by
  rw [ofBits_bf16, ieee_normal 8 7 _ n 0 (field _ _ _ _ (by omega) (by omega)) (field _ _ _ _ (by omega) (by omega))
    (sign _ _ (by omega) (by omega)) (by omega) (by omega)]
  congr 1
  rw [show ((2 ^ 7 + 0 : ℕ) : ℝ) = (2 : ℝ) ^ (7 : ℤ) by norm_num, ← zpow_add₀ (by norm_num)]
  congr 1; push_cast; ring

/-! ### The search for the exponent -/

/-- The threshold of the candidate `t`. -/
def thr (t : ℕ) : EReal := Ideal.ofBits .f32 (BitVec.ofNat 32 (t * 8388608) - 2097152#32)

/-- The word of a threshold by its fields. -/
theorem thr_word (n : ℕ) (h2 : n ≤ 254) :
    BitVec.ofNat 32 ((n + 1) * 8388608) - 2097152#32 = BitVec.ofNat 32 (n * 8388608 + 6291456) := by
  apply BitVec.eq_of_toNat_eq
  rw [BitVec.toNat_sub, BitVec.toNat_ofNat, BitVec.toNat_ofNat, BitVec.toNat_ofNat]
  omega

/-- The value of a threshold. -/
theorem thr_eq (t : ℕ) (h1 : 2 ≤ t) (h2 : t ≤ 255) :
    thr t = ((448 * (2 : ℝ) ^ ((t : ℤ) - 136) : ℝ) : EReal) := by
  obtain ⟨n, rfl⟩ : ∃ n, t = n + 1 := ⟨t - 1, by omega⟩
  unfold thr
  rw [thr_word _ (by omega), ofBits_f32, ieee_normal 8 23 _ n 6291456 (field _ _ _ _ (by omega) (by omega))
    (field _ _ _ _ (by omega) (by omega)) (sign _ _ (by omega) (by omega)) (by omega) (by omega)]
  congr 1
  rw [show ((2 ^ 23 + 6291456 : ℕ) : ℝ) = 448 * (2 : ℝ) ^ (15 : ℤ) by norm_num, mul_assoc, ← zpow_add₀ (by norm_num)]
  congr 2; push_cast; ring

/-- The value of the smallest threshold, a number below the normal ones. -/
theorem thr_one : thr 1 = ((384 * (2 : ℝ) ^ (-135 : ℤ) : ℝ) : EReal) := by
  unfold thr
  rw [show BitVec.ofNat 32 (1 * 8388608) - 2097152#32 = BitVec.ofNat 32 (0 * 8388608 + 6291456) from rfl, ofBits_f32, ieee_small 8 23 _ 6291456
    (field _ _ _ _ (by omega) (by omega)) (field _ _ _ _ (by omega) (by omega)) (sign _ _ (by omega) (by omega))
    (by omega)]
  congr 1
  rw [show ((6291456 : ℕ) : ℝ) = 384 * (2 : ℝ) ^ (14 : ℤ) by norm_num, mul_assoc, ← zpow_add₀ (by norm_num)]
  congr 2

/-- Thresholds grow. -/
theorem thr_mono (s t : ℕ) (h0 : 1 ≤ s) (h : s ≤ t) (h2 : t ≤ 255) : thr s ≤ thr t := by
  rcases Nat.lt_or_ge 1 s with hs | hs
  · rw [thr_eq s hs (by omega), thr_eq t (by omega) h2, EReal.coe_le_coe_iff]
    have : (2 : ℝ) ^ ((s : ℤ) - 136) ≤ 2 ^ ((t : ℤ) - 136) := zpow_le_zpow_right₀ (by norm_num) (by omega)
    exact mul_le_mul_of_nonneg_left this (by norm_num)
  · obtain rfl : s = 1 := by omega
    rcases Nat.lt_or_ge 1 t with ht | ht
    · rw [thr_one, thr_eq t ht h2, EReal.coe_le_coe_iff]
      have : (2 : ℝ) ^ (-135 : ℤ) ≤ 2 ^ ((t : ℤ) - 136) := zpow_le_zpow_right₀ (by norm_num) (by omega)
      exact mul_le_mul (by norm_num) this (by positivity) (by norm_num)
    · obtain rfl : t = 1 := by omega
      exact le_refl _

/-- One step of the search on one element. -/
def findS (a : EReal) (b e : BitVec 32) : BitVec 32 :=
  if Ideal.ofBits .f32 (IntOp.subi (IntOp.shli ArithUnit.vector (IntOp.addi e b) 23#32) 2097152#32) ≤ a
    then IntOp.addi e b else e

/-- The candidates up to `n` pass and those from `n + w` on fail. -/
def Between (a : EReal) (n w : ℕ) : Prop :=
  n + w ≤ 256 ∧ (∀ t, 1 ≤ t → t ≤ n → thr t ≤ a) ∧ ∀ t, n + w ≤ t → t ≤ 255 → ¬ thr t ≤ a

/-- One step halves the range of candidates. -/
theorem findS_step (a : EReal) (n w : ℕ) (hw : 1 ≤ w) (h : Between a n (2 * w)) :
    ∃ m, findS a (BitVec.ofNat 32 w) (BitVec.ofNat 32 n) = BitVec.ofNat 32 m ∧ Between a m w := by
  obtain ⟨h1, h2, h3⟩ := h
  have e1 : IntOp.addi (BitVec.ofNat 32 n) (BitVec.ofNat 32 w) = BitVec.ofNat 32 (n + w) :=
    (BitVec.ofNat_add n w).symm
  have e2 : IntOp.subi (IntOp.shli ArithUnit.vector (BitVec.ofNat 32 (n + w)) 23#32) 2097152#32
      = BitVec.ofNat 32 ((n + w) * 8388608) - 2097152#32 := by
    have : IntOp.shli ArithUnit.vector (BitVec.ofNat 32 (n + w)) 23#32 = BitVec.ofNat 32 ((n + w) * 8388608) := by
      apply BitVec.eq_of_toNat_eq
      rw [IntOp.shli, if_pos (by decide), BitVec.shiftLeft_eq', BitVec.toNat_shiftLeft, BitVec.toNat_ofNat,
        BitVec.toNat_ofNat, Nat.shiftLeft_eq, BitVec.toNat_ofNat]
      norm_num
    rw [this]; rfl
  unfold findS
  rw [e1, e2]
  show ∃ m, (if thr (n + w) ≤ a then _ else _) = _ ∧ _
  by_cases h : thr (n + w) ≤ a
  · refine ⟨n + w, if_pos h, by omega, fun t ht ht' => ?_, fun t ht ht' => h3 t (by omega) ht'⟩
    exact (thr_mono t (n + w) ht ht' (by omega)).trans h
  · refine ⟨n, if_neg h, by omega, h2, fun t ht ht' hc => h ?_⟩
    exact (thr_mono (n + w) t (by omega) ht ht').trans hc

/-- The scale byte of one element. -/
def byteS (a : EReal) : BitVec 32 :=
  if a = 0 then 127#32 else
    IntOp.maxsi (IntOp.subi (findS a 1#32 (findS a 2#32 (findS a 4#32 (findS a 8#32
      (findS a 16#32 (findS a 32#32 (findS a 64#32 (findS a 128#32 0#32)))))))) 8#32) 0#32

/-- The byte that the search finds is the exponent plus 127. -/
theorem byteS_eq {a : EReal} {e : ℤ} (h : IsExp a e) : byteS a = BitVec.ofNat 32 (e + 127).toNat := by
  obtain ⟨he1, he2, ⟨h0, rfl⟩ | ⟨h1, h2⟩⟩ := h
  · rw [byteS, if_pos h0]; rfl
  · have hpos : (0 : EReal) < a := lt_of_lt_of_le (by
      rw [← EReal.coe_zero, EReal.coe_lt_coe_iff]; positivity) h1
    rw [byteS, if_neg hpos.ne']
    have s0 : Between a 0 (2 * 128) := ⟨by omega, fun t _ _ => by omega, fun t _ _ => by omega⟩
    obtain ⟨m1, q1, s1⟩ := findS_step a _ _ (by norm_num) s0
    obtain ⟨m2, q2, s2⟩ := findS_step a m1 64 (by norm_num) s1
    obtain ⟨m3, q3, s3⟩ := findS_step a m2 32 (by norm_num) s2
    obtain ⟨m4, q4, s4⟩ := findS_step a m3 16 (by norm_num) s3
    obtain ⟨m5, q5, s5⟩ := findS_step a m4 8 (by norm_num) s4
    obtain ⟨m6, q6, s6⟩ := findS_step a m5 4 (by norm_num) s5
    obtain ⟨m7, q7, s7⟩ := findS_step a m6 2 (by norm_num) s6
    obtain ⟨m, q8, s8⟩ := findS_step a m7 1 (by norm_num) s7
    rw [q1, q2, q3, q4, q5, q6, q7, q8]
    obtain ⟨b1, b2, b3⟩ := s8
    have hm : (m : ℤ) = e + 135 := by
      apply le_antisymm
      · by_contra hc
        have := b2 (e + 136).toNat (by omega) (by omega)
        rw [thr_eq _ (by omega) (by omega), Int.toNat_of_nonneg (by omega), add_sub_cancel_right] at this
        exact absurd h2 (not_lt.2 this)
      · by_contra hc
        have := b3 (e + 135).toNat (by omega) (by omega)
        rw [thr_eq _ (by omega) (by omega), Int.toNat_of_nonneg (by omega)] at this
        apply this
        convert h1 using 4
        ring
    obtain ⟨n, rfl⟩ : ∃ n, m = n + 8 := ⟨m - 8, by omega⟩
    have hn : (e + 127).toNat = n := by omega
    rw [hn]
    have hn' : n ≤ 247 := by omega
    have : IntOp.subi (BitVec.ofNat 32 (n + 8)) 8#32 = BitVec.ofNat 32 n := by
      apply BitVec.eq_of_toNat_eq
      rw [IntOp.subi, BitVec.toNat_sub, BitVec.toNat_ofNat, BitVec.toNat_ofNat, BitVec.toNat_ofNat]
      omega
    rw [this]
    clear * - hn'
    have : ∀ n : Fin 248, IntOp.maxsi (BitVec.ofNat 32 n.val) 0#32 = BitVec.ofNat 32 n.val := by decide +kernel
    exact this ⟨n, by omega⟩

end Cert.Scales
-- ==== Proof.RefScalars.lean ====
/-
The exponent of a group's scale as the reference computes it, by logarithm, floor and clipping, and the operations on it.
-/
module

public import proofs.«01_k».proof.Proof.Scales

set_option maxRecDepth 16384

@[expose] public section

noncomputable section

namespace Cert.Scales

open Idealize.ShloMosaic

/-- A format's value at a negative normal word. -/
theorem ieee_negative {w : ℕ} (e m : ℕ) (b : BitVec w) (E T : ℕ) (h1 : (b.extractLsb' m e).toNat = E)
    (h2 : (b.extractLsb' 0 m).toNat = T) (h3 : b.extractLsb' (e + m) 1 = 1#1) (hE : E ≠ 2 ^ e - 1) (hE0 : E ≠ 0) :
    Ideal.ieee e m b = ((-(((2 ^ m + T : ℕ) : ℝ)) * (2 : ℝ) ^ ((E : ℤ) - (2 ^ (e - 1) - 1) - m) : ℝ) : EReal) := by
  unfold Ideal.ieee
  simp only [h1, h2, h3]
  rw [if_neg hE, if_neg hE0]
  simp

/-- The word of 127. -/
theorem ofBits_127 : Ideal.ofBits .f32 0x42FE0000#32 = ((127 : ℝ) : EReal) := by
  rw [ofBits_f32, ieee_normal 8 23 _ 133 8257536 (by decide) (by decide) (by decide) (by decide) (by decide)]
  congr 1
  norm_num

/-- The word of -127. -/
theorem ofBits_neg127 : Ideal.ofBits .f32 0xC2FE0000#32 = ((-127 : ℝ) : EReal) := by
  rw [ofBits_f32, ieee_negative 8 23 _ 133 8257536 (by decide) (by decide) (by decide) (by decide) (by decide)]
  congr 1
  norm_num

/-- The word of 2. -/
theorem ofBits_two : Ideal.ofBits .f32 0x40000000#32 = ((2 : ℝ) : EReal) := by
  rw [ofBits_f32, ieee_normal 8 23 _ 128 0 (by decide) (by decide) (by decide) (by decide) (by decide)]
  congr 1
  norm_num

/-- The word of 1. -/
theorem ofBits_unit : Ideal.ofBits .f32 0x3F800000#32 = ((1 : ℝ) : EReal) := by
  rw [ofBits_f32, ieee_normal 8 23 _ 127 0 (by decide) (by decide) (by decide) (by decide) (by decide)]
  congr 1
  norm_num

/-- The word of minus infinity. -/
theorem ofBits_bot : Ideal.ofBits .f32 0xFF800000#32 = ⊥ := by
  rw [ofBits_f32]
  unfold Ideal.ieee
  rw [if_pos (by decide), if_pos (by decide), if_pos (by decide)]

/-- The exponent of the scale of a group with largest magnitude `a`: one more than the whole part of the binary logarithm of `a / 448`, zero for
    a group of zeros, clipped to the range of the exponent. -/
def expR (a : EReal) : EReal :=
  min (Ideal.ofBits .f32 0x42FE0000#32) (max (Ideal.ofBits .f32 0xC2FE0000#32) (if a = Ideal.ofBits .f32 0x00000000#32 then Ideal.ofBits .f32 0x00000000#32
    else Ideal.liftRound Int.floor (Ideal.div (Ideal.log (a * ((1 / 448 : ℝ) : EReal))) (Ideal.log (Ideal.ofBits .f32 0x40000000#32)))
      + Ideal.ofBits .f32 0x3F800000#32))

/-- The whole part of the binary logarithm. -/
theorem floor_log {x : ℝ} {e : ℤ} (h1 : 448 * (2 : ℝ) ^ (e - 1) ≤ x) (h2 : x < 448 * (2 : ℝ) ^ e) :
    ⌊Real.log (x * (1 / 448)) * (1 / Real.log 2)⌋ = e - 1 := by
  have hl : 0 < Real.log 2 := Real.log_pos (by norm_num)
  have hp : 0 < (2 : ℝ) ^ (e - 1) := by positivity
  have hx : 0 < x := lt_of_lt_of_le (by positivity) h1
  have ha : (2 : ℝ) ^ (e - 1) ≤ x * (1 / 448) := by linarith
  have hb : x * (1 / 448) < (2 : ℝ) ^ e := by linarith
  rw [mul_one_div, Int.floor_eq_iff]
  constructor
  · rw [le_div_iff₀ hl, ← Real.log_zpow]
    exact Real.log_le_log hp ha
  · rw [div_lt_iff₀ hl, show (((e - 1 : ℤ) : ℝ) + 1) = ((e : ℤ) : ℝ) by push_cast; ring, ← Real.log_zpow]
    exact Real.log_lt_log (by positivity) hb

/-- The exponent, computed. -/
theorem expR_eq {a : EReal} {e : ℤ} (h : IsExp a e) : expR a = (((e : ℝ)) : EReal) := by
  obtain ⟨hl, hu, h⟩ := h
  have hl' : (-127 : ℝ) ≤ (e : ℝ) := by exact_mod_cast (by omega : (-127 : ℤ) ≤ e)
  have hu' : (e : ℝ) ≤ (127 : ℝ) := by exact_mod_cast (by omega : e ≤ (127 : ℤ))
  have key : (if a = Ideal.ofBits .f32 0x00000000#32 then Ideal.ofBits .f32 0x00000000#32
      else Ideal.liftRound Int.floor (Ideal.div (Ideal.log (a * ((1 / 448 : ℝ) : EReal))) (Ideal.log (Ideal.ofBits .f32 0x40000000#32)))
        + Ideal.ofBits .f32 0x3F800000#32) = ((e : ℝ) : EReal) := by
    rw [Ideal.ofBits_zero_f32, ofBits_unit, ofBits_two]
    rcases h with ⟨h0, h0'⟩ | ⟨h1, h2⟩
    · rw [if_pos h0, h0']
      simp
    · induction a with
      | bot => exact absurd (le_bot_iff.1 h1) (EReal.coe_ne_bot _)
      | top => exact absurd h2 not_top_lt
      | coe x =>
        have h1' := EReal.coe_le_coe_iff.1 h1
        have h2' := EReal.coe_lt_coe_iff.1 h2
        have hp : 0 < (2 : ℝ) ^ (e - 1) := by positivity
        have hx : 0 < x := by linarith
        have hl2 : Real.log 2 ≠ 0 := (Real.log_pos (by norm_num)).ne'
        rw [if_neg (by exact_mod_cast hx.ne'), ← EReal.coe_mul]
        rw [show Ideal.log ((x * (1 / 448) : ℝ) : EReal) = ((Real.log (x * (1 / 448)) : ℝ) : EReal) from if_neg (by push Not; positivity),
          show Ideal.log ((2 : ℝ) : EReal) = ((Real.log 2 : ℝ) : EReal) from if_neg (by norm_num),
          Ideal.div_coe hl2, ← EReal.coe_mul, Ideal.liftRound_coe, floor_log h1' h2', ← EReal.coe_add]
        congr 1
        push_cast
        ring
  unfold expR
  rw [key, ofBits_127, ofBits_neg127, ← EReal.coe_strictMono.monotone.map_max, ← EReal.coe_strictMono.monotone.map_min,
    max_eq_right hl', min_eq_right hu']

/-- Two to a whole power. -/
theorem exp2_int (e : ℤ) : Ideal.exp2 (((e : ℝ)) : EReal) = (((2 : ℝ) ^ e : ℝ) : EReal) := by
  show ((Real.rpow 2 (e : ℝ) : ℝ) : EReal) = _
  congr 1
  exact Real.rpow_intCast 2 e

/-- Two to minus a whole power. -/
theorem exp2_neg (e : ℤ) : Ideal.exp2 (Ideal.ofBits .f32 0x00000000#32 - (((e : ℝ)) : EReal)) = (((2 : ℝ) ^ (-e) : ℝ) : EReal) := by
  rw [Ideal.ofBits_zero_f32, zero_sub, ← EReal.coe_neg, show (-(e : ℝ)) = (((-e : ℤ)) : ℝ) by push_cast; rfl, exp2_int]

/-- The biased exponent as a word. -/
theorem fptosi_int (e : ℤ) (h1 : -126 ≤ e) (h2 : e ≤ 120) :
    IntOp.addi (Ideal.fptosi 32 (((e : ℝ)) : EReal)) 127#32 = BitVec.ofNat 32 (e + 127).toNat := by
  have h : Ideal.toIntClamped (-(2 ^ (32 - 1) : Nat)) ((2 ^ (32 - 1) : Nat) - 1) (((e : ℝ)) : EReal) = e := by
    show max _ (min _ (if (0 : ℝ) ≤ (e : ℝ) then ⌊(e : ℝ)⌋ else ⌈(e : ℝ)⌉)) = e
    rw [Int.floor_intCast, Int.ceil_intCast, ite_self]
    norm_num
    omega
  unfold Ideal.fptosi
  rw [h]
  apply BitVec.eq_of_toInt_eq
  obtain ⟨n, hn⟩ : ∃ n : ℕ, e + 127 = n := ⟨(e + 127).toNat, by omega⟩
  have he : e = (n : ℤ) - 127 := by omega
  rw [hn]
  subst he
  have hn2 : n ≤ 247 := by omega
  have hn1 : 1 ≤ n := by omega
  clear h h1 h2 hn
  interval_cases n <;> decide

/-- The scale of a biased exponent read as a number. -/
theorem exp2_byte (n : ℕ) (h : n ≤ 254) :
    Ideal.exp2 (FloatOps.sitofp (F := Ideal) .f32 (IntOp.subi (BitVec.setWidth 32 (BitVec.ofNat 8 n)) 127#32)) = (((2 : ℝ) ^ ((n : ℤ) - 127) : ℝ) : EReal) := by
  have hw : ∀ n : Fin 256, (IntOp.subi (BitVec.setWidth 32 (BitVec.ofNat 8 n.val)) 127#32).toInt = (n.val : ℤ) - 127 := by decide +kernel
  have hi := hw ⟨n, by omega⟩
  show Ideal.exp2 ((((IntOp.subi (BitVec.setWidth 32 (BitVec.ofNat 8 n)) 127#32).toInt : ℝ)) : EReal) = _
  rw [show (IntOp.subi (BitVec.setWidth 32 (BitVec.ofNat 8 n)) 127#32).toInt = (n : ℤ) - 127 from hi, exp2_int]

end Cert.Scales
-- ==== Proof.TileValues.lean ====
/-
The results of a row tile at an index, in terms of the maxima of the groups of 32 numbers of each row.
-/
module

public import proofs.«01_k».proof.Proof.Tiles
public import proofs.«01_k».proof.Proof.Scales

set_option maxRecDepth 16384

@[expose] public section

noncomputable section

namespace Cert.KernelIdeal.Tiles

open Idealize.ShloMosaic Cert.KernelIdeal Cert.KernelIdeal.Gen Cert.KernelIdeal.Lanes

/-- Column `k` of group `g`. -/
def col (g : Fin 36) (k : Fin 32) : Fin 1152 := ⟨32 * g.val + k.val, by omega⟩

/-- The greatest magnitude of group `g` of a row. -/
def gmax (f : Fin 1152 → EReal) (g : Fin 36) : EReal :=
  Finset.univ.sup fun k : Fin 32 => max (f (col g k)) (-(f (col g k)))

/-- Row `p` of a pair of rows. -/
def rowOf (w : Fin 256) (p : Fin 2) : Fin 512 := ⟨2 * w.val + p.val, by omega⟩

/-- The group of lane `l` of slab `j`. -/
def groupOf (j : Fin 9) (l : Fin 128) : Fin 36 := ⟨4 * j.val + l.val / 32, by omega⟩

/-- A leader lane of slab `j` holds the slab's maxima. -/
theorem compact_lead (p : Fin 2) (x : Fin 9 → Slab) (w : Fin 256) (j : Fin 9) (l : Fin 128) (hl : l.val % 32 = j.val) :
    compact p (x 0) (x 1) (x 2) (x 3) (x 4) (x 5) (x 6) (x 7) (x 8) (ix2 w l) = slabMax j (x j) (ix2 (rowOf w p) l) := by
  unfold compact
  dsimp only
  have h := fun k : Fin 9 => isLead_apply k w l
  have h1 := h 1; have h2 := h 2; have h3 := h 3; have h4 := h 4; have h5 := h 5; have h6 := h 6; have h7 := h 7; have h8 := h 8
  change isLead 1 _ = _ at h1; change isLead 2 _ = _ at h2; change isLead 3 _ = _ at h3; change isLead 4 _ = _ at h4
  change isLead 5 _ = _ at h5; change isLead 6 _ = _ at h6; change isLead 7 _ = _ at h7; change isLead 8 _ = _ at h8
  rw [hl] at h1 h2 h3 h4 h5 h6 h7 h8
  pointwise
  rw [h1, h2, h3, h4, h5, h6, h7, h8]
  fin_cases j <;> rfl

/-- The group maximum on a leader lane. -/
theorem amax_lead (p : Fin 2) (x : FVec Ideal S512x1152 .bf16) (w : Fin 256) (j : Fin 9) (l : Fin 128) (hl : l.val % 32 = j.val) :
    amax p x (ix2 w l) = gmax (fun c => x (ix2 (rowOf w p) c)) (groupOf j l) := by
  unfold amax
  pointwise
  rw [compact_lead p (slab x) w j l hl, slabMax_lead j _ _ _ hl]
  unfold gmax
  apply le_antisymm
  · apply Finset.sup_le
    intro e he
    have he : e.val / 32 = l.val / 32 := by simpa using he
    have := Finset.le_sup (f := fun k : Fin 32 => max (x (ix2 (rowOf w p) (col (groupOf j l) k))) (-(x (ix2 (rowOf w p) (col (groupOf j l) k)))))
      (Finset.mem_univ (⟨e.val % 32, Nat.mod_lt _ (by decide)⟩ : Fin 32))
    refine le_trans (le_of_eq ?_) this
    have hc : (⟨128 * j.val + e.val, by omega⟩ : Fin 1152) = col (groupOf j l) ⟨e.val % 32, Nat.mod_lt _ (by decide)⟩ := by
      apply Fin.ext
      show 128 * j.val + e.val = 32 * (4 * j.val + l.val / 32) + e.val % 32
      omega
    rw [← hc]
    rfl
  · apply Finset.sup_le
    intro k _
    have hk := k.isLt
    have hll := l.isLt
    have hm : (⟨32 * (l.val / 32) + k.val, by omega⟩ : Fin 128) ∈ Finset.univ.filter fun e : Fin 128 => e.val / 32 = l.val / 32 := by
      simp only [Finset.mem_filter, Finset.mem_univ, true_and]
      omega
    have := Finset.le_sup (f := fun e : Fin 128 => max (slab x j (ix2 (rowOf w p) e)) (-(slab x j (ix2 (rowOf w p) e)))) hm
    refine le_trans (le_of_eq ?_) this
    have hc : col (groupOf j l) k = (⟨128 * j.val + (32 * (l.val / 32) + k.val), by omega⟩ : Fin 1152) := by
      apply Fin.ext
      show 32 * (4 * j.val + l.val / 32) + k.val = 128 * j.val + (32 * (l.val / 32) + k.val)
      omega
    rw [hc]
    rfl

/-- The scale byte at an element. -/
theorem scaleByte_apply (a : FVec Ideal S256x128 .f32) (w : Fin 256) (l : Fin 128) :
    scaleByte a (ix2 w l) = Scales.byteS (a (ix2 w l)) := by
  unfold scaleByte findStep Scales.byteS Scales.findS
  pointwise

/-! ### The factors -/

/-- The two halves of a word made of two bytes, each in a half's exponent bits. -/
theorem halves (n : Fin 2 → ℕ) (h : ∀ p, n p < 256) (p : Fin 2) :
    (IntOp.ori (IntOp.shli ArithUnit.vector (BitVec.ofNat 32 (n 0)) 7#32)
      (IntOp.shli ArithUnit.vector (BitVec.ofNat 32 (n 1)) 23#32)).extractLsb' (16 * p.val) 16 = BitVec.ofNat 16 (n p * 128) := by
  have h0 := h 0
  have h1 := h 1
  have e0 : (IntOp.shli ArithUnit.vector (BitVec.ofNat 32 (n 0)) 7#32).toNat = n 0 * 128 := by
    show ((BitVec.ofNat 32 (n 0)) <<< 7).toNat = _
    rw [BitVec.toNat_shiftLeft, BitVec.toNat_ofNat, Nat.shiftLeft_eq]
    omega
  have e1 : (IntOp.shli ArithUnit.vector (BitVec.ofNat 32 (n 1)) 23#32).toNat = n 1 * 8388608 := by
    show ((BitVec.ofNat 32 (n 1)) <<< 23).toNat = _
    rw [BitVec.toNat_shiftLeft, BitVec.toNat_ofNat, Nat.shiftLeft_eq]
    omega
  have e : (IntOp.ori (IntOp.shli ArithUnit.vector (BitVec.ofNat 32 (n 0)) 7#32)
      (IntOp.shli ArithUnit.vector (BitVec.ofNat 32 (n 1)) 23#32)).toNat = n 1 * 8388608 + n 0 * 128 := by
    show (_ ||| _ : BitVec 32).toNat = _
    rw [BitVec.toNat_or, e0, e1, Nat.or_comm]
    have := Nat.two_pow_add_eq_or_of_lt (i := 23) (b := n 0 * 128) (by omega) (n 1)
    rw [show 2 ^ 23 = 8388608 from by norm_num, Nat.mul_comm 8388608 (n 1)] at this
    exact this.symm
  apply BitVec.eq_of_toNat_eq
  rw [BitVec.extractLsb'_toNat, e, Nat.shiftRight_eq_div_pow, BitVec.toNat_ofNat]
  fin_cases p
  · show (n 1 * 8388608 + n 0 * 128) / 1 % 65536 = n 0 * 128 % 65536
    omega
  · show (n 1 * 8388608 + n 0 * 128) / 65536 % 65536 = n 1 * 128 % 65536
    omega

/-- The scale word at an element. -/
theorem scaleWord_apply (lo hi : Words) (w : Fin 256) (l : Fin 128) : scaleWord lo hi (ix2 w l)
    = IntOp.ori (IntOp.shli ArithUnit.vector (lo (ix2 w l)) 7#32) (IntOp.shli ArithUnit.vector (hi (ix2 w l)) 23#32) := by
  unfold scaleWord k0_pay68
  pointwise

/-- The inverse scale word at an element. -/
theorem invWord_apply (lo hi : Words) (w : Fin 256) (l : Fin 128) : invWord lo hi (ix2 w l)
    = IntOp.ori (IntOp.shli ArithUnit.vector (IntOp.subi (254#32) (lo (ix2 w l))) 7#32)
        (IntOp.shli ArithUnit.vector (IntOp.subi (254#32) (hi (ix2 w l))) 23#32) := by
  unfold invWord k0_pay69
  pointwise

/-- The factor at an element: the half of the word of the row's pair. -/
theorem asFactor_apply (z : Words) (w : Fin 256) (p : Fin 2) (l : Fin 128) :
    asFactor z (ix2 (rowOf w p) l) = Ideal.ofBits .bf16 ((z (ix2 w l)).extractLsb' (16 * p.val) 16) := by
  unfold asFactor
  pointwise
  rw [bitcast_32_16]
  have hr : S512x128.row (ix2 (rowOf w p) l) = 2 * w.val + p.val := rfl
  have hp : 16 * (S512x128.row (ix2 (rowOf w p) l) % 2) = 16 * p.val := by rw [hr]; omega
  have hs : bitcasts_S256x128_w32_S512x128_w16.srcIdx (ix2 (rowOf w p) l) (S512x128.row (ix2 (rowOf w p) l) / 2) (by
      intro a ha
      have := bitcasts_S256x128_w32_S512x128_w16.pos_lt (ix2 (rowOf w p) l) 0 (by decide) a ha
      omega) = ix2 w l := by
    funext a
    fin_cases a <;> apply Fin.ext
    · show (2 * w.val + p.val) / 2 = w.val
      omega
    · rfl
  rw [hs, hp]

/-- Every group of a row has its exponent. -/
def HasExp (f : Fin 1152 → EReal) (e : Fin 36 → ℤ) : Prop := ∀ g, Scales.IsExp (gmax f g) (e g)

/-- The scale byte on a leader lane. -/
theorem byte_lead (p : Fin 2) (x : FVec Ideal S512x1152 .bf16) (w : Fin 256) (e : Fin 36 → ℤ)
    (he : HasExp (fun c => x (ix2 (rowOf w p) c)) e) (j : Fin 9) (l : Fin 128) (hl : l.val % 32 = j.val) :
    byte p x (ix2 w l) = BitVec.ofNat 32 (e (groupOf j l) + 127).toNat := by
  unfold byte
  rw [scaleByte_apply, amax_lead p x w j l hl]
  exact Scales.byteS_eq (he _)

/-- The bounds of an exponent. -/
theorem exp_bounds {f : Fin 1152 → EReal} {e : Fin 36 → ℤ} (he : HasExp f e) (g : Fin 36) : -126 ≤ e g ∧ e g ≤ 120 :=
  ⟨(he g).1, (he g).2.1⟩

/-- The leader lane of a lane. -/
theorem lead_mod (j : Fin 9) (l : Fin 128) : (Fin.ofNat 128 (32 * (l.val / 32) + j.val)).val % 32 = j.val := by
  simp only [Fin.ofNat]
  omega

/-- A lane and its leader are in one group. -/
theorem lead_group (j : Fin 9) (l : Fin 128) : groupOf j (Fin.ofNat 128 (32 * (l.val / 32) + j.val)) = groupOf j l := by
  apply Fin.ext
  show 4 * j.val + (32 * (l.val / 32) + j.val) % 128 / 32 = 4 * j.val + l.val / 32
  omega

/-- The scale of a lane is the power of two of its group's exponent. -/
theorem scale_apply (x : FVec Ideal S512x1152 .bf16) (w : Fin 256) (e : Fin 2 → Fin 36 → ℤ)
    (he : ∀ p, HasExp (fun c => x (ix2 (rowOf w p) c)) (e p)) (p : Fin 2) (j : Fin 9) (l : Fin 128) :
    asFactor (spread j (scales x)) (ix2 (rowOf w p) l) = (((2 : ℝ) ^ (e p (groupOf j l)) : ℝ) : EReal) := by
  rw [asFactor_apply, spread_apply]
  unfold scales
  rw [scaleWord_apply, byte_lead 0 x w _ (he 0) j _ (lead_mod j l), byte_lead 1 x w _ (he 1) j _ (lead_mod j l), lead_group]
  have hb := fun q => exp_bounds (he q) (groupOf j l)
  have := hb p
  rw [halves (fun q => (e q (groupOf j l) + 127).toNat) (fun q => by have := hb q; omega) p, Scales.bf16_pow _ (by omega) (by omega)]
  congr 2
  omega

/-- The inverse scale of a lane is the inverse power of two. -/
theorem inv_apply (x : FVec Ideal S512x1152 .bf16) (w : Fin 256) (e : Fin 2 → Fin 36 → ℤ)
    (he : ∀ p, HasExp (fun c => x (ix2 (rowOf w p) c)) (e p)) (p : Fin 2) (j : Fin 9) (l : Fin 128) :
    asFactor (spread j (invs x)) (ix2 (rowOf w p) l) = (((2 : ℝ) ^ (-(e p (groupOf j l))) : ℝ) : EReal) := by
  rw [asFactor_apply, spread_apply]
  unfold invs
  rw [invWord_apply, byte_lead 0 x w _ (he 0) j _ (lead_mod j l), byte_lead 1 x w _ (he 1) j _ (lead_mod j l), lead_group]
  have hb := fun q => exp_bounds (he q) (groupOf j l)
  have hs : ∀ q, IntOp.subi (254#32) (BitVec.ofNat 32 (e q (groupOf j l) + 127).toNat) = BitVec.ofNat 32 (127 - e q (groupOf j l)).toNat := by
    intro q
    have := hb q
    apply BitVec.eq_of_toNat_eq
    show (254#32 - BitVec.ofNat 32 (e q (groupOf j l) + 127).toNat).toNat = _
    rw [BitVec.toNat_sub, BitVec.toNat_ofNat, BitVec.toNat_ofNat, BitVec.toNat_ofNat]
    omega
  have := hb p
  rw [hs, hs, halves (fun q => (127 - e q (groupOf j l)).toNat) (fun q => by have := hb q; omega) p, Scales.bf16_pow _ (by omega) (by omega)]
  congr 2
  omega

end Cert.KernelIdeal.Tiles
-- ==== Proof.TileResults.lean ====
/-
The three results of a row tile at an index: the codes, the scale bytes, and the product with the scaled weights.
-/
module

public import proofs.«01_k».proof.Proof.TileValues

set_option maxRecDepth 16384

@[expose] public section

noncomputable section

namespace Cert.KernelIdeal.Tiles

open Idealize.ShloMosaic Cert.KernelIdeal Cert.KernelIdeal.Gen Cert.KernelIdeal.Lanes

/-- The group of a column. -/
def grp (c : Fin 1152) : Fin 36 := ⟨c.val / 32, by omega⟩

/-- The code of column `c` of a row: the number over the scale of its group, clipped to the range of the 8-bit format. -/
def code (f : Fin 1152 → EReal) (e : Fin 36 → ℤ) (c : Fin 1152) : EReal :=
  min (Ideal.ofBits .f32 0x43E00000#32) (max (Ideal.ofBits .f32 0xC3E00000#32) (f c * (((2 : ℝ) ^ (-(e (grp c))) : ℝ) : EReal)))

/-- Column `l` of slab `j`. -/
def slabCol (j : Fin 9) (l : Fin 128) : Fin 1152 := ⟨128 * j.val + l.val, by omega⟩

/-- The group of a column of a slab. -/
theorem grp_slabCol (j : Fin 9) (l : Fin 128) : grp (slabCol j l) = groupOf j l := by
  apply Fin.ext
  show (128 * j.val + l.val) / 32 = 4 * j.val + l.val / 32
  omega

/-- The group of a column of a group. -/
theorem grp_col (g : Fin 36) (k : Fin 32) : grp (col g k) = g := by
  apply Fin.ext
  show (32 * g.val + k.val) / 32 = g.val
  omega

/-- The codes of a slab at an index: the product with the inverse scale, clipped. -/
theorem codes_apply (j : Nat) (z : Words) (x : Slab) (r : Fin 512) (l : Fin 128) :
    codes j z x (ix2 r l) = min (Ideal.ofBits .f32 0x43E00000#32)
      (max (Ideal.ofBits .f32 0xC3E00000#32) (x (ix2 r l) * asFactor (spread j z) (ix2 r l))) := by
  unfold codes
  pointwise

/-- The contribution of a slab at an index: the sum over its lanes. -/
theorem part_apply (j : Nat) (s z : Words) (x : Slab) (w : FVec Ideal S1024x128 .bf16) (r : Fin 512) (n : Fin 1024) :
    part j s z x w (ix2 r n) = ∑ l : Fin 128, codes j z x (ix2 r l) * asFactor (spread j s) (ix2 r l) * w (ix2 n l) := by
  unfold part
  pointwise

/-- The codes of slab `j` in terms of the exponents of the row's groups. -/
theorem slabCodes_apply (x : FVec Ideal S512x1152 .bf16) (w : Fin 256) (e : Fin 2 → Fin 36 → ℤ)
    (he : ∀ p, HasExp (fun c => x (ix2 (rowOf w p) c)) (e p)) (p : Fin 2) (j : Fin 9) (l : Fin 128) :
    slabCodes x j (ix2 (rowOf w p) l) = code (fun c => x (ix2 (rowOf w p) c)) (e p) (slabCol j l) := by
  unfold slabCodes code
  rw [codes_apply, inv_apply x w e he p j l, grp_slabCol]
  rfl

/-- The second result of a tile at an index. -/
theorem outCodes_apply (x : FVec Ideal S512x1152 .bf16) (w : Fin 256) (e : Fin 2 → Fin 36 → ℤ)
    (he : ∀ p, HasExp (fun c => x (ix2 (rowOf w p) c)) (e p)) (p : Fin 2) (c : Fin 1152) :
    outCodes x (ix2 (rowOf w p) c) = code (fun c => x (ix2 (rowOf w p) c)) (e p) c := by
  have h := slabCodes_apply x w e he p (⟨c.val / 128, by omega⟩ : Fin 9) (⟨c.val % 128, by omega⟩ : Fin 128)
  have hc : slabCol (⟨c.val / 128, by omega⟩ : Fin 9) (⟨c.val % 128, by omega⟩ : Fin 128) = c := by
    apply Fin.ext
    show 128 * (c.val / 128) + c.val % 128 = c.val
    omega
  rw [hc] at h
  exact h

/-- A sum over columns is the sum over the slabs of the sums over their lanes. -/
theorem sum_slabs (T : Fin 1152 → EReal) : ∑ j : Fin 9, ∑ l : Fin 128, T (slabCol j l) = ∑ c, T c := by
  rw [← Fintype.sum_prod_type' (f := fun (j : Fin 9) (l : Fin 128) => T (slabCol j l))]
  refine Fintype.sum_equiv (finProdFinEquiv (m := 9) (n := 128)) _ T fun jl => ?_
  congr 1
  apply Fin.ext
  show 128 * jl.1.val + jl.2.val = jl.2.val + 128 * jl.1.val
  omega

/-- A sum over columns is the sum over the groups of the sums over their members. -/
theorem sum_groups (T : Fin 1152 → EReal) : ∑ g : Fin 36, ∑ k : Fin 32, T (col g k) = ∑ c, T c := by
  rw [← Fintype.sum_prod_type' (f := fun (g : Fin 36) (k : Fin 32) => T (col g k))]
  refine Fintype.sum_equiv (finProdFinEquiv (m := 36) (n := 32)) _ T fun gk => ?_
  congr 1
  apply Fin.ext
  show 32 * gk.1.val + gk.2.val = gk.2.val + 32 * gk.1.val
  omega

/-- The first result of a tile as a sum of slab contributions and the bias. -/
theorem outY_parts (x : FVec Ideal S512x1152 .bf16) (w : FVec Ideal S1024x1152 .bf16) (b : FVec Ideal S1x1024 .f32)
    (r : Fin 512) (n : Fin 1024) :
    outY x w b (ix2 r n) = (∑ j : Fin 9, contrib x w j (ix2 r n)) + b (ix2 (0 : Fin 1) n) := by
  unfold outY
  pointwise
  rw [Fin.sum_univ_castSucc, Fin.sum_univ_eight]
  rfl

/-- The first result of a tile at an index: the dot product of the row, each code times its scale, with a row of weights, and the bias. -/
theorem outY_apply (x : FVec Ideal S512x1152 .bf16) (w : FVec Ideal S1024x1152 .bf16) (b : FVec Ideal S1x1024 .f32)
    (v : Fin 256) (e : Fin 2 → Fin 36 → ℤ) (he : ∀ p, HasExp (fun c => x (ix2 (rowOf v p) c)) (e p)) (p : Fin 2) (n : Fin 1024) :
    outY x w b (ix2 (rowOf v p) n)
      = (∑ c : Fin 1152, code (fun c => x (ix2 (rowOf v p) c)) (e p) c * (((2 : ℝ) ^ (e p (grp c)) : ℝ) : EReal) * w (ix2 n c))
        + b (ix2 (0 : Fin 1) n) := by
  rw [outY_parts, ← sum_slabs]
  congr 1
  refine Finset.sum_congr rfl fun j _ => ?_
  unfold contrib
  rw [part_apply]
  refine Finset.sum_congr rfl fun l _ => ?_
  rw [scale_apply x v e he p j l, grp_slabCol]
  have h := slabCodes_apply x v e he p j l
  unfold slabCodes at h
  rw [h]
  rfl

/-- The lanes that hold a group's number in the third result. -/
theorem used_apply (w : Fin 256) (l : Fin 128) : k0_pay111 lanes (ix2 w l) = if l.val < 36 then 1#1 else 0#1 := by
  unfold k0_pay111 lanes
  pointwise
  revert l
  decide +kernel

/-- The lane each lane of the third result is read from. -/
theorem source_apply (w : Fin 256) (l : Fin 128) :
    k0_pay112 lanes (ix2 w l) = BitVec.ofNat 32 (l.val % 4 * 32 + l.val / 4) := by
  unfold k0_pay112 lanes
  pointwise
  revert l
  decide +kernel

/-- The index read for group `g`, as the program computes it. -/
theorem index_eq : ∀ g : Fin 36,
    (Scalar.select (IntOp.cmpi .slt (Scalar.select (if g.val < 36 then 1#1 else 0#1) (BitVec.ofNat 32 (g.val % 4 * 32 + g.val / 4)) 0#32) 0#32)
      (IntOp.addi (Scalar.select (if g.val < 36 then 1#1 else 0#1) (BitVec.ofNat 32 (g.val % 4 * 32 + g.val / 4)) 0#32) 128#32)
      (Scalar.select (if g.val < 36 then 1#1 else 0#1) (BitVec.ofNat 32 (g.val % 4 * 32 + g.val / 4)) 0#32)).toNat % 128
      = g.val % 4 * 32 + g.val / 4 := by
  decide +kernel

/-- The layout of the third result: each pair of rows read at the lane of the group. -/
theorem layout_apply (lo hi : Words) (w : Fin 256) (p : Fin 2) (g : Fin 36) :
    k0_pay1 lo hi (k0_pay111 lanes) (k0_pay112 lanes) (ix2 (rowOf w p) g)
      = BitVec.setWidth 8 (if (rowOf w p).val % 2 < 1
          then lo (ix2 (⟨(rowOf w p).val / 2, by omega⟩ : Fin 256) (⟨g.val % 4 * 32 + g.val / 4, by omega⟩ : Fin 128))
          else hi (ix2 (⟨(rowOf w p).val / 2, by omega⟩ : Fin 256) (⟨g.val % 4 * 32 + g.val / 4, by omega⟩ : Fin 128))) := by
  generalize ha : k0_pay111 lanes = a
  generalize hb : k0_pay112 lanes = b
  unfold k0_pay1
  pointwise
  subst ha hb
  simp only [used_apply, source_apply, index_eq]
  rfl

/-- The third result of a tile at an index: the biased exponent of the group. -/
theorem outBytes_apply (x : FVec Ideal S512x1152 .bf16) (w : Fin 256) (e : Fin 2 → Fin 36 → ℤ)
    (he : ∀ p, HasExp (fun c => x (ix2 (rowOf w p) c)) (e p)) (p : Fin 2) (g : Fin 36) :
    outBytes x (ix2 (rowOf w p) g) = BitVec.setWidth 8 (BitVec.ofNat 32 (e p g + 127).toNat) := by
  have hg : groupOf (⟨g.val / 4, by omega⟩ : Fin 9) (⟨g.val % 4 * 32 + g.val / 4, by omega⟩ : Fin 128) = g := by
    apply Fin.ext
    show 4 * (g.val / 4) + (g.val % 4 * 32 + g.val / 4) / 32 = g.val
    omega
  have hb : ∀ q : Fin 2, byte q x (ix2 w (⟨g.val % 4 * 32 + g.val / 4, by omega⟩ : Fin 128)) = BitVec.ofNat 32 (e q g + 127).toNat := by
    intro q
    have h := byte_lead q x w (e q) (he q) (⟨g.val / 4, by omega⟩ : Fin 9) (⟨g.val % 4 * 32 + g.val / 4, by omega⟩ : Fin 128)
      (by show (g.val % 4 * 32 + g.val / 4) % 32 = g.val / 4; omega)
    rw [hg] at h
    exact h
  have hw : (⟨(rowOf w p).val / 2, by omega⟩ : Fin 256) = w := by
    apply Fin.ext
    show (2 * w.val + p.val) / 2 = w.val
    omega
  have hp : (rowOf w p).val % 2 = p.val := by
    show (2 * w.val + p.val) % 2 = p.val
    omega
  unfold outBytes
  rw [layout_apply, hw, hb 0, hb 1, hp]
  congr 1
  by_cases h0 : p.val < 1
  · rw [if_pos h0, show p = 0 from Fin.ext (by show p.val = 0; omega)]
  · rw [if_neg h0, show p = 1 from Fin.ext (by show p.val = 1; omega)]

/-- The group of a column, as the program computes it. -/
theorem group_word : ∀ c : Fin 1152, (Scalar.select
    (IntOp.andi
      (IntOp.cmpi .ne
        (IntOp.subi (BitVec.setWidth 32 (IntOp.cmpi .sgt (BitVec.ofNat 32 c.val) 0#32)) (BitVec.setWidth 32 (IntOp.cmpi .slt (BitVec.ofNat 32 c.val) 0#32)))
        (Scalar.subi (Scalar.extui (Scalar.cmpi .sgt 32#32 0#32)) (Scalar.extui (Scalar.cmpi .slt 32#32 0#32))))
      (IntOp.cmpi .ne (IntOp.remsi .vector (BitVec.ofNat 32 c.val) 32#32) 0#32))
    (IntOp.subi (IntOp.divsi .vector (BitVec.ofNat 32 c.val) 32#32) 1#32)
    (IntOp.divsi .vector (BitVec.ofNat 32 c.val) 32#32)) = BitVec.ofNat 32 (c.val / 32) := by
  decide +kernel

/-- The entries of the matrix that spreads the groups to their columns, as words. -/
theorem spread_word : ∀ d x : Fin 36,
    BitVec.setWidth 32 (IntOp.cmpi .eq (BitVec.ofNat 32 d.val) (BitVec.ofNat 32 x.val)) = if x = d then 1#32 else 0#32 := by
  decide +kernel

/-- The scaled weights at an index: the weight times the number whose exponent field is the scale of its group. -/
theorem weights_shift (s : Vec Ideal S1024x36 .i8) (w : Vec Ideal S1024x1152 .fp8e4m3) (n : Fin 1024) (c : Fin 1152) :
    k0_pay2 (F := Ideal) s w (ix2 n c)
      = w (ix2 n c) * Ideal.ofBits .f32 (IntOp.shli .vector (BitVec.setWidth 32 (s (ix2 n (grp c)))) 23#32) := by
  have h1 : FloatOps.sitofp (F := Ideal) .f32 1#32 = (1 : EReal) := by
    show (((1#32).toInt : ℝ) : EReal) = 1
    norm_num
  have h0 : FloatOps.sitofp (F := Ideal) .f32 0#32 = (0 : EReal) := by
    show (((0#32).toInt : ℝ) : EReal) = 0
    norm_num
  unfold k0_pay2
  pointwise
  rw [group_word c]
  congr 1
  rw [Finset.sum_eq_single (grp c)]
  · rw [show c.val / 32 = (grp c).val from rfl, spread_word, if_pos rfl, h1, mul_one]
  · intro x _ hx
    rw [show c.val / 32 = (grp c).val from rfl, spread_word, if_neg hx, h0, mul_zero]
  · intro h
    exact absurd (Finset.mem_univ _) h

/-- A byte in the place of the exponent field. -/
theorem shift_word : ∀ n : Fin 256, IntOp.shli .vector (BitVec.setWidth 32 (BitVec.ofNat 8 n.val)) 23#32 = BitVec.ofNat 32 (n.val * 8388608) := by
  decide +kernel

/-- The scaled weights at an index, where the scale byte is that of a normal number. -/
theorem weights_apply (s : Vec Ideal S1024x36 .i8) (w : Vec Ideal S1024x1152 .fp8e4m3) (n : Fin 1024) (c : Fin 1152)
    (h1 : 1 ≤ (s (ix2 n (grp c))).toNat) (h2 : (s (ix2 n (grp c))).toNat ≤ 254) :
    k0_pay2 (F := Ideal) s w (ix2 n c)
      = w (ix2 n c) * (((2 : ℝ) ^ (((s (ix2 n (grp c))).toNat : ℤ) - 127) : ℝ) : EReal) := by
  rw [weights_shift]
  congr 1
  generalize s (ix2 n (grp c)) = b at h1 h2 ⊢
  have hb : b = BitVec.ofNat 8 b.toNat := by simp
  have h := shift_word ⟨b.toNat, b.isLt⟩
  rw [← hb] at h
  rw [h, Scales.f32_pow b.toNat h1 h2]

end Cert.KernelIdeal.Tiles
-- ==== Proof.RefValues.lean ====
/-
The reference's results at an index, in terms of the exponents of the scales of the groups of each row.
-/
module

public import proofs.«01_k».proof.Proof.RefRun
public import proofs.«01_k».proof.Proof.RefScalars
public import proofs.«01_k».proof.Proof.TileResults

set_option maxRecDepth 16384

@[expose] public section

noncomputable section

namespace Cert.ReferenceIdeal.RefValues

open Idealize.ShloMosaic Cert.ReferenceIdeal Cert.ReferenceIdeal.Gen
open Cert.KernelIdeal.Tiles (col gmax grp code HasExp sum_groups grp_col exp_bounds)

/-- The rows in groups. -/
theorem grouped_apply (x : Vec Ideal S24576x1152 .bf16) (r : Fin 24576) (g : Fin 36) (k : Fin 32) :
    k0_pay2 (F := Ideal) x (ix3 r g k) = x (ix2 r (⟨g.val * 32 + k.val, by omega⟩ : Fin 1152)) := by
  unfold k0_pay2
  pointwise

/-- The column of a member of a group. -/
theorem col_eq (g : Fin 36) (k : Fin 32) (h : g.val * 32 + k.val < 1152) : (⟨g.val * 32 + k.val, h⟩ : Fin 1152) = col g k :=
  Fin.ext (by show g.val * 32 + k.val = 32 * g.val + k.val; omega)

/-- The largest magnitude over the last axis, as a fold. -/
theorem max_fold (y : FVec Ideal S24576x36x32 .f32) (r : Fin 24576) (g : Fin 36) :
    multiReduction (F := Ideal) .maximumf [2] S24576x36 (absf y) 0xFF800000#32 reduces_S24576x36x32_S24576x36 (.inl rfl) rfl (ix2 r g)
      = Finset.fold max (Ideal.ofBits .f32 0xFF800000#32) (fun k : Fin 32 => FloatOps.absf (F := Ideal) (φ := .f32) (y (ix3 r g k))) Finset.univ := by
  pointwise

/-- The largest magnitude of a group. -/
theorem max_apply (x : Vec Ideal S24576x1152 .bf16) (r : Fin 24576) (g : Fin 36) :
    multiReduction (F := Ideal) .maximumf [2] S24576x36 (absf (k0_pay2 x)) 0xFF800000#32 reduces_S24576x36x32_S24576x36 (.inl rfl) rfl (ix2 r g)
      = gmax (fun c => x (ix2 r c)) g := by
  rw [max_fold, Scales.ofBits_bot]
  have h : (fun k : Fin 32 => FloatOps.absf (F := Ideal) (φ := .f32) (k0_pay2 (F := Ideal) x (ix3 r g k)))
      = fun k : Fin 32 => max (x (ix2 r (col g k))) (-(x (ix2 r (col g k)))) := by
    funext k
    rw [grouped_apply, col_eq]
    rfl
  rw [h]
  rfl

/-- The elementwise part of the exponent at an index. -/
theorem exp_read (v : FVec Ideal S24576x36 .f32) (i two o z m p : Ideal .f32) (r : Fin 24576) (g : Fin 36) :
    minimumf (broadcast S24576x36 p) (maximumf (broadcast S24576x36 m) (select (cmpf .oeq v (broadcast S24576x36 z)) (broadcast S24576x36 z)
      (addf (floor (divf (log (mulf v (broadcast S24576x36 i))) (log (broadcast S24576x36 two)))) (broadcast S24576x36 o)))) (ix2 r g)
      = min p (max m (if v (ix2 r g) = z then z
          else Ideal.liftRound Int.floor (Ideal.div (Ideal.log (v (ix2 r g) * i)) (Ideal.log two)) + o)) := by
  pointwise

/-- The exponents as one expression. -/
theorem exp_term (x : Vec Ideal S24576x1152 .bf16) : k0_pay3 (F := Ideal) x
    = minimumf (broadcast S24576x36 (Scalar.ofBits .f32 0x42FE0000#32)) (maximumf (broadcast S24576x36 (Scalar.ofBits .f32 0xC2FE0000#32))
      (select (cmpf .oeq (multiReduction .maximumf [2] S24576x36 (absf (k0_pay2 x)) 0xFF800000#32 reduces_S24576x36x32_S24576x36 (.inl rfl) rfl)
          (broadcast S24576x36 (Scalar.ofBits .f32 0x00000000#32))) (broadcast S24576x36 (Scalar.ofBits .f32 0x00000000#32))
        (addf (floor (divf (log (mulf (multiReduction .maximumf [2] S24576x36 (absf (k0_pay2 x)) 0xFF800000#32 reduces_S24576x36x32_S24576x36 (.inl rfl) rfl)
            (broadcast S24576x36 (Named.named κ "inv_max" 0x3B124925#32)))) (log (broadcast S24576x36 (Scalar.ofBits .f32 0x40000000#32)))))
          (broadcast S24576x36 (Scalar.ofBits .f32 0x3F800000#32))))) := rfl

/-- The exponent of a group's scale. -/
theorem exp_apply (x : Vec Ideal S24576x1152 .bf16) (r : Fin 24576) (e : Fin 36 → ℤ) (he : HasExp (fun c => x (ix2 r c)) e) (g : Fin 36) :
    k0_pay3 (F := Ideal) x (ix2 r g) = (((e g : ℝ)) : EReal) := by
  rw [exp_term, exp_read, max_apply, ← Scales.expR_eq (he g)]
  rfl

/-- The codes laid out in rows. -/
theorem flat_apply (v : FVec Ideal S24576x36x32 .fp8e4m3) (r : Fin 24576) (c : Fin 1152) :
    shapeCast S24576x1152 v shapeCasts_S24576x36x32_S24576x1152 (ix2 r c)
      = v (ix3 r (⟨c.val / 32, by omega⟩ : Fin 36) (⟨c.val % 32, by omega⟩ : Fin 32)) := by
  pointwise

/-- The elementwise part of the codes at an index. -/
theorem code_read (y : FVec Ideal S24576x36x32 .f32) (v : FVec Ideal S24576x36 .f32) (z a b : Ideal .f32) (r : Fin 24576) (g : Fin 36) (k : Fin 32) :
    minimumf (broadcast S24576x36x32 b) (maximumf (broadcast S24576x36x32 a) (mulf y (broadcastTo S24576x36x32
      (shapeCast S24576x36x1 (exp2 (subf (broadcast S24576x36 z) v)) shapeCasts_S24576x36_S24576x36x1) broadcasts_S24576x36x1_S24576x36x32))) (ix3 r g k)
      = min b (max a (y (ix3 r g k) * FloatOps.exp2 (F := Ideal) (φ := .f32) (z - v (ix2 r g)))) := by
  pointwise

/-- The codes as one expression. -/
theorem code_term (x : Vec Ideal S24576x1152 .bf16) : k0_pay4 (F := Ideal) x
    = shapeCast S24576x1152 (truncf .fp8e4m3 (minimumf (broadcast S24576x36x32 (Scalar.ofBits .f32 0x43E00000#32))
      (maximumf (broadcast S24576x36x32 (Scalar.ofBits .f32 0xC3E00000#32)) (mulf (k0_pay2 x) (broadcastTo S24576x36x32
        (shapeCast S24576x36x1 (exp2 (subf (broadcast S24576x36 (Scalar.ofBits .f32 0x00000000#32)) (k0_pay3 x))) shapeCasts_S24576x36_S24576x36x1)
        broadcasts_S24576x36x1_S24576x36x32)))) bitsLt_fp8e4m3_f32) shapeCasts_S24576x36x32_S24576x1152 := rfl

/-- The code of a column of a row. -/
theorem code_apply (x : Vec Ideal S24576x1152 .bf16) (r : Fin 24576) (e : Fin 36 → ℤ) (he : HasExp (fun c => x (ix2 r c)) e) (c : Fin 1152) :
    k0_pay4 (F := Ideal) x (ix2 r c) = code (fun c => x (ix2 r c)) e c := by
  rw [code_term, flat_apply]
  refine (code_read _ _ _ _ _ _ _ _).trans ?_
  rw [exp_apply x r e he, grouped_apply]
  have hc : (⟨c.val / 32 * 32 + c.val % 32, by omega⟩ : Fin 1152) = c := Fin.ext (by show c.val / 32 * 32 + c.val % 32 = c.val; omega)
  rw [hc]
  unfold code
  rw [← Scales.exp2_neg (e (grp c))]
  rfl

/-- The scale byte of a group. -/
theorem byte_apply (x : Vec Ideal S24576x1152 .bf16) (r : Fin 24576) (e : Fin 36 → ℤ) (he : HasExp (fun c => x (ix2 r c)) e) (g : Fin 36) :
    k0_pay5 (F := Ideal) x (ix2 r g) = BitVec.setWidth 8 (BitVec.ofNat 32 (e g + 127).toNat) := by
  have h := exp_bounds he g
  have ht : k0_pay5 (F := Ideal) x (ix2 r g)
      = BitVec.setWidth 8 (IntOp.addi (FloatOps.fptosi (F := Ideal) 32 (k0_pay3 (F := Ideal) x (ix2 r g))) 127#32) := by
    unfold k0_pay5
    generalize k0_pay3 (F := Ideal) x = y
    pointwise
  rw [ht, exp_apply x r e he, ← Scales.fptosi_int (e g) h.1 h.2]
  rfl

/-- The product of the codes of a group with the weights of the group. -/
theorem dot_apply (x : Vec Ideal S24576x1152 .bf16) (w : Vec Ideal S1024x1152 .fp8e4m3) (r : Fin 24576) (g : Fin 36) (n : Fin 1024) :
    k0_pay6 (F := Ideal) x w (ix3 g r n)
      = ∑ k : Fin 32, k0_pay4 (F := Ideal) x (ix2 r (col g k)) * w (ix2 n (col g k)) := by
  have ht : k0_pay6 (F := Ideal) x w (ix3 g r n)
      = ∑ k : Fin 32, k0_pay4 (F := Ideal) x (ix2 r (⟨g.val * 32 + k.val, by omega⟩ : Fin 1152)) * w (ix2 n (⟨g.val * 32 + k.val, by omega⟩ : Fin 1152)) := by
    unfold k0_pay6
    generalize k0_pay4 (F := Ideal) x = y
    pointwise
  rw [ht]
  exact Finset.sum_congr rfl fun k _ => by rw [col_eq]

/-- The sum over the groups, each with its two scales, and the bias. -/
theorem sum_apply (b : IVec S24576x36 8) (d : FVec Ideal S36x24576x1024 .f32) (s : Vec Ideal S1024x36 .i8) (bias : Vec Ideal S1x1024 .f32)
    (r : Fin 24576) (n : Fin 1024) :
    k0_pay1 (F := Ideal) b d s bias (ix2 r n)
      = (∑ g : Fin 36, d (ix3 g r n) * FloatOps.exp2 (F := Ideal) (φ := .f32) (FloatOps.sitofp .f32 (IntOp.subi (BitVec.setWidth 32 (b (ix2 r g))) 127#32))
          * FloatOps.exp2 (F := Ideal) (φ := .f32) (FloatOps.sitofp .f32 (IntOp.subi (BitVec.setWidth 32 (s (ix2 n g))) 127#32)))
        + bias (ix2 (0 : Fin 1) n) := by
  unfold k0_pay1
  pointwise

/-- A nonnegative real factor times a sum of extended reals. -/
theorem sum_mul_real {ι : Type} [Fintype ι] (T : ι → EReal) (a : ℝ) (ha : 0 ≤ a) : (∑ k, T k) * ((a : ℝ) : EReal) = ∑ k, T k * ((a : ℝ) : EReal) := by
  classical
  induction (Finset.univ : Finset ι) using Finset.induction_on with
  | empty => simp
  | insert i s hi ih =>
    rw [Finset.sum_insert hi, Finset.sum_insert hi, ← ih]
    exact EReal.right_distrib_of_nonneg_of_ne_top (by exact_mod_cast ha) (EReal.coe_ne_top a) _ _

/-- The first result at an index: the dot product of the row, each code times its scale, with a row of scaled weights, and the bias. -/
theorem y_apply (x : Vec Ideal S24576x1152 .bf16) (w : Vec Ideal S1024x1152 .fp8e4m3) (s : Vec Ideal S1024x36 .i8) (bias : Vec Ideal S1x1024 .f32)
    (r : Fin 24576) (e : Fin 36 → ℤ) (he : HasExp (fun c => x (ix2 r c)) e) (n : Fin 1024)
    (hs : ∀ g, (s (ix2 n g)).toNat ≤ 254) :
    k0_pay1 (F := Ideal) (k0_pay5 x) (k0_pay6 x w) s bias (ix2 r n)
      = (∑ c : Fin 1152, code (fun c => x (ix2 r c)) e c * (((2 : ℝ) ^ (e (grp c)) : ℝ) : EReal)
          * (w (ix2 n c) * (((2 : ℝ) ^ (((s (ix2 n (grp c))).toNat : ℤ) - 127) : ℝ) : EReal)))
        + bias (ix2 (0 : Fin 1) n) := by
  rw [sum_apply, ← sum_groups]
  congr 1
  refine Finset.sum_congr rfl fun g _ => ?_
  have hb := exp_bounds he g
  have h1 : FloatOps.exp2 (F := Ideal) (φ := .f32) (FloatOps.sitofp .f32 (IntOp.subi (BitVec.setWidth 32 (k0_pay5 (F := Ideal) x (ix2 r g))) 127#32))
      = (((2 : ℝ) ^ (e g) : ℝ) : EReal) := by
    have h := Scales.exp2_byte (e g + 127).toNat (by omega)
    rw [show (((e g + 127).toNat : ℕ) : ℤ) - 127 = e g by omega] at h
    rw [byte_apply x r e he, ← h, show BitVec.setWidth 8 (BitVec.ofNat 32 (e g + 127).toNat) = BitVec.ofNat 8 (e g + 127).toNat by
      apply BitVec.eq_of_toNat_eq
      rw [BitVec.toNat_setWidth, BitVec.toNat_ofNat, BitVec.toNat_ofNat]
      omega]
    rfl
  have h2 : FloatOps.exp2 (F := Ideal) (φ := .f32) (FloatOps.sitofp .f32 (IntOp.subi (BitVec.setWidth 32 (s (ix2 n g))) 127#32))
      = (((2 : ℝ) ^ (((s (ix2 n g)).toNat : ℤ) - 127) : ℝ) : EReal) := by
    have h := Scales.exp2_byte (s (ix2 n g)).toNat (hs g)
    rw [show BitVec.ofNat 8 (s (ix2 n g)).toNat = s (ix2 n g) by simp] at h
    rw [← h]
    rfl
  rw [h1, h2, dot_apply, sum_mul_real _ _ (by positivity), sum_mul_real _ _ (by positivity)]
  refine Finset.sum_congr rfl fun k _ => ?_
  rw [code_apply x r e he, grp_col]
  rw [mul_assoc, mul_assoc, mul_assoc]
  congr 1
  rw [← mul_assoc, mul_comm (w (ix2 n (col g k))), mul_assoc]

end Cert.ReferenceIdeal.RefValues
-- ==== Proof.Precondition.lean ====
/-
What the precondition says of the arguments: every group of activations has an exponent in the normal range, and so has every weight scale.
-/
module

public import proofs.«01_k».proof.Pre_scales_normal
public import proofs.«01_k».proof.Proof.RefScalars
public import proofs.«01_k».proof.Proof.TileResults

set_option maxRecDepth 16384

@[expose] public section

noncomputable section

namespace Cert.Precondition

open Idealize.ShloMosaic Cert.Pre_scales_normal
open Cert.KernelIdeal.Tiles (col gmax)

/-- A fold of one-bit conjunctions is true only where every member is. -/
theorem fold_and {ι : Type} [DecidableEq ι] (s : Finset ι) (x : ι → BitVec 1) (a : BitVec 1) (h : s.fold IntOp.andi a x = 1#1) :
    ∀ i ∈ s, x i = 1#1 := by
  have hand : ∀ p q : BitVec 1, IntOp.andi p q = 1#1 → p = 1#1 ∧ q = 1#1 := by decide
  induction s using Finset.induction_on with
  | empty => simp
  | insert j s hj ih =>
    rw [Finset.fold_insert hj] at h
    obtain ⟨h1, h2⟩ := hand _ _ h
    intro i hi
    rcases Finset.mem_insert.1 hi with rfl | hi
    · exact h1
    · exact ih h2 i hi

/-- A conjunction over a whole array is true only where every element is. -/
theorem all_true {s : Shape} {axes : List (Fin s.rank)} (x : IVec s 1) (v : IVec S_ 1) (h : s.ReducesTo axes S_) (hu : 0 < S_.numel)
    (j : S_.Idx) (hx : Host.reduce IntOp.andi x v h hu j = 1#1) (i : s.Idx) : x i = 1#1 := by
  classical
  rw [Host.reduce_eq_fold] at hx
  exact fold_and _ x _ hx i (Finset.mem_filter.2 ⟨Finset.mem_univ i, funext fun b => b.elim0⟩)

/-- The word of the upper bound. -/
theorem ofBits_upper : Ideal.ofBits .f32 0x7F7F0000#32 = ((255 * (2 : ℝ) ^ (120 : ℤ) : ℝ) : EReal) := by
  rw [Scales.ofBits_f32, Scales.ieee_normal 8 23 _ 254 8323072 (by decide) (by decide) (by decide) (by decide) (by decide)]
  congr 1
  rw [show (120 : ℤ) = 16 + 104 by norm_num, zpow_add₀ (by norm_num)]
  norm_num

/-- The word of the lower bound. -/
theorem ofBits_lower : Ideal.ofBits .f32 0x04600000#32 = ((448 * (2 : ℝ) ^ (-127 : ℤ) : ℝ) : EReal) := by
  rw [Scales.ofBits_f32, Scales.ieee_normal 8 23 _ 8 6291456 (by decide) (by decide) (by decide) (by decide) (by decide)]
  congr 1
  rw [show (-127 : ℤ) = 15 + -142 by norm_num, zpow_add₀ (by norm_num)]
  norm_num

variable [Facts]
open Facts

/-- The magnitudes in groups. -/
def grouped (x : FVec Ideal S8x3072x1152 .bf16) : FVec Ideal S8x3072x36x32 .f32 :=
  shapeCast S8x3072x36x32 (Host.absf (extf .f32 x bitsLt_bf16_f32)) shapeCasts_S8x3072x1152_S8x3072x36x32

/-- A magnitude of a group. -/
theorem grouped_apply (x : FVec Ideal S8x3072x1152 .bf16) (b : Fin 8) (i : Fin 3072) (g : Fin 36) (k : Fin 32) :
    grouped x (ix4 b i g k) = max (x (ix3 b i (⟨g.val * 32 + k.val, by omega⟩ : Fin 1152))) (-(x (ix3 b i (⟨g.val * 32 + k.val, by omega⟩ : Fin 1152)))) := by
  unfold grouped
  pointwise
  rfl

/-- The largest magnitudes. -/
def maxima (x : FVec Ideal S8x3072x1152 .bf16) : FVec Ideal S8x3072x36 .f32 :=
  Host.reduce FloatOps.maximumf (grouped x) (constant (F := Ideal) S_ .f32 0xFF800000#32) reducesTo_S8x3072x36x32_S8x3072x36_d3 h_S_

/-- The largest magnitude of a group. -/
theorem maxima_apply (x : FVec Ideal S8x3072x1152 .bf16) (b : Fin 8) (i : Fin 3072) (g : Fin 36) :
    maxima x (ix3 b i g) = Finset.fold max (Ideal.ofBits .f32 0xFF800000#32) (fun k : Fin 32 => grouped x (ix4 b i g k)) Finset.univ := by
  unfold maxima
  generalize grouped x = y
  pointwise

/-- The largest magnitude of a group, as the results' exponents read it. -/
theorem maxima_eq (x : FVec Ideal S8x3072x1152 .bf16) (b : Fin 8) (i : Fin 3072) (g : Fin 36) :
    maxima x (ix3 b i g) = gmax (fun c => x (ix3 b i c)) g := by
  rw [maxima_apply, Scales.ofBits_bot]
  have h : (fun k : Fin 32 => grouped x (ix4 b i g k)) = fun k : Fin 32 => max (x (ix3 b i (col g k))) (-(x (ix3 b i (col g k)))) := by
    funext k
    rw [grouped_apply, show (⟨g.val * 32 + k.val, by omega⟩ : Fin 1152) = col g k from
      Fin.ext (by show g.val * 32 + k.val = 32 * g.val + k.val; omega)]
  rw [h]
  rfl

/-- The test on the largest magnitudes. -/
def normal (a : FVec Ideal S8x3072x36 .f32) : IVec S8x3072x36 1 :=
  andi (cmpf .ole a (broadcastInDim S8x3072x36 ![] bcast_S_S8x3072x36 (constant (F := Ideal) S_ .f32 0x7F7F0000#32)))
    (ori (cmpf .oeq a (broadcastInDim S8x3072x36 ![] bcast_S_S8x3072x36 (constant (F := Ideal) S_ .f32 0x00000000#32)))
      (cmpf .oge a (broadcastInDim S8x3072x36 ![] bcast_S_S8x3072x36 (constant (F := Ideal) S_ .f32 0x04600000#32))))

/-- The test on the weight scales. -/
def inRange (s : IVec S1024x36 8) : IVec S1024x36 1 :=
  andi (cmpi .sge (extui 32 s natLt_8_32) (broadcastInDim S1024x36 ![] bcast_S_S1024x36 (constantI S_ 32 1#32)))
    (cmpi .sle (extui 32 s natLt_8_32) (broadcastInDim S1024x36 ![] bcast_S_S1024x36 (constantI S_ 32 254#32)))

/-- The test on one largest magnitude. -/
theorem normal_apply (a : FVec Ideal S8x3072x36 .f32) (i : S8x3072x36.Idx) (h : normal a i = 1#1) :
    a i ≤ Ideal.ofBits .f32 0x7F7F0000#32 ∧ (a i = Ideal.ofBits .f32 0x00000000#32 ∨ Ideal.ofBits .f32 0x04600000#32 ≤ a i) := by
  have h' : IntOp.andi (FloatOps.cmpf (F := Ideal) (φ := .f32) .ole (a i) (Ideal.ofBits .f32 0x7F7F0000#32))
      (IntOp.ori (FloatOps.cmpf (F := Ideal) (φ := .f32) .oeq (a i) (Ideal.ofBits .f32 0x00000000#32))
        (FloatOps.cmpf (F := Ideal) (φ := .f32) .oge (a i) (Ideal.ofBits .f32 0x04600000#32))) = 1#1 := h
  generalize a i = y at h' ⊢
  generalize Ideal.ofBits .f32 0x7F7F0000#32 = u at h' ⊢
  generalize Ideal.ofBits .f32 0x00000000#32 = z at h' ⊢
  generalize Ideal.ofBits .f32 0x04600000#32 = l at h' ⊢
  have hand : ∀ p q r : BitVec 1, IntOp.andi p (IntOp.ori q r) = 1#1 → p = 1#1 ∧ (q = 1#1 ∨ r = 1#1) := by decide
  have hbool : ∀ p : Bool, BitVec.ofBool p = 1#1 → p = true := by decide
  obtain ⟨h1, h2⟩ := hand _ _ _ h'
  refine ⟨of_decide_eq_true (hbool _ h1), ?_⟩
  rcases h2 with h2 | h2
  · exact Or.inl (of_decide_eq_true (hbool _ h2))
  · exact Or.inr (of_decide_eq_true (hbool _ h2))

/-- The test on one weight scale. -/
theorem inRange_apply (s : IVec S1024x36 8) (i : S1024x36.Idx) (h : inRange s i = 1#1) : 1 ≤ (s i).toNat ∧ (s i).toNat ≤ 254 := by
  have h' : IntOp.andi (IntOp.cmpi .sge (BitVec.setWidth 32 (s i)) 1#32) (IntOp.cmpi .sle (BitVec.setWidth 32 (s i)) 254#32) = 1#1 := h
  generalize s i = b at h' ⊢
  have hw : ∀ n : Fin 256, IntOp.andi (IntOp.cmpi .sge (BitVec.setWidth 32 (BitVec.ofNat 8 n.val)) 1#32)
      (IntOp.cmpi .sle (BitVec.setWidth 32 (BitVec.ofNat 8 n.val)) 254#32) = 1#1 → 1 ≤ n.val ∧ n.val ≤ 254 := by decide +kernel
  have hb : BitVec.ofNat 8 b.toNat = b := by simp
  have := hw ⟨b.toNat, b.isLt⟩
  rw [hb] at this
  exact this h'

/-- What the precondition says. -/
theorem reads (x : FVec Ideal S8x3072x1152 .bf16) (w : FVec Ideal S1024x1152 .fp8e4m3) (s : IVec S1024x36 8) (b : FVec Ideal S1024 .f32)
    (h : fn (F := Ideal) x w s b = fun _ => 1#1) :
    (∀ (n : Fin 8) (i : Fin 3072), ∃ e : Fin 36 → ℤ, Cert.KernelIdeal.Tiles.HasExp (fun c => x (ix3 n i c)) e)
      ∧ ∀ (n : Fin 1024) (g : Fin 36), 1 ≤ (s (ix2 n g)).toNat ∧ (s (ix2 n g)).toNat ≤ 254 := by
  have hand : ∀ p q : BitVec 1, IntOp.andi p q = 1#1 → p = 1#1 ∧ q = 1#1 := by decide
  have hj : IntOp.andi (Host.reduce IntOp.andi (normal (maxima x)) (constantI S_ 1 1#1) reducesTo_S8x3072x36_S_d0_1_2 h_S_ (Shape.Idx.first h_S_))
      (Host.reduce IntOp.andi (inRange s) (constantI S_ 1 1#1) reducesTo_S1024x36_S_d0_1 h_S_ (Shape.Idx.first h_S_)) = 1#1 :=
    congrFun h (Shape.Idx.first h_S_)
  obtain ⟨h1, h2⟩ := hand _ _ hj
  constructor
  · intro n i
    have hg : ∀ g : Fin 36, ∃ e : ℤ, Scales.IsExp (gmax (fun c => x (ix3 n i c)) g) e := by
      intro g
      have ha := normal_apply _ _ (all_true _ _ _ _ _ h1 (ix3 n i g))
      rw [maxima_eq, ofBits_upper, ofBits_lower, Ideal.ofBits_zero_f32] at ha
      exact Scales.exists_isExp ha.1 ha.2
    exact ⟨fun g => (hg g).choose, fun g => (hg g).choose_spec⟩
  · intro n g
    exact inRange_apply s _ (all_true _ _ _ _ _ h2 (ix2 n g))

end Cert.Precondition
-- ==== Proof.Equal.lean ====
/-
The kernel's three results are the reference's, on arguments that satisfy the precondition.
-/
module

public import proofs.«01_k».proof.Proof.KernelRun
public import proofs.«01_k».proof.Proof.RefValues
public import proofs.«01_k».proof.Proof.Precondition

set_option maxRecDepth 16384

@[expose] public section

noncomputable section

namespace Cert.Equal

open Idealize.ShloMosaic
open Cert.KernelIdeal.Tiles Cert.KernelIdeal.Run

/-- The activations as rows. -/
abbrev Rows := FVec Ideal Cert.KernelIdeal.S24576x1152 .bf16

/-- Row `r` of tile `t` of all rows. -/
def rowAt (t : Fin 48) (r : Fin 512) : Fin 24576 := ⟨512 * t.val + r.val, by omega⟩

/-- The tile of a row. -/
def tileOf (R : Fin 24576) : Fin 48 := ⟨R.val / 512, by omega⟩
/-- The pair of a row in its tile. -/
def pairOf (R : Fin 24576) : Fin 256 := ⟨R.val % 512 / 2, by omega⟩
/-- The place of a row in its pair. -/
def parityOf (R : Fin 24576) : Fin 2 := ⟨R.val % 512 % 2, by omega⟩

/-- A row's place in its tile. -/
theorem row_eq (R : Fin 24576) : (⟨R.val % 512, Nat.mod_lt _ (by decide)⟩ : Fin 512) = rowOf (pairOf R) (parityOf R) :=
  Fin.ext (by show R.val % 512 = 2 * (R.val % 512 / 2) + R.val % 512 % 2; omega)

/-- A row found again from its place. -/
theorem at_eq (R : Fin 24576) : rowAt (tileOf R) (rowOf (pairOf R) (parityOf R)) = R :=
  Fin.ext (by show 512 * (R.val / 512) + (2 * (R.val % 512 / 2) + R.val % 512 % 2) = R.val; omega)

variable (X : Rows) (E : Fin 24576 → Fin 36 → ℤ)

/-- The second result at a row and a column. -/
theorem codes_eq (hE : ∀ R, HasExp (fun c => X (ix2 R c)) (E R)) (R : Fin 24576) (c : Fin 1152) :
    outCodes (tile (F := Ideal) X (tileOf R)) (ix2 (⟨R.val % 512, Nat.mod_lt _ (by decide)⟩ : Fin 512) c) = code (fun c => X (ix2 R c)) (E R) c := by
  have h := outCodes_apply (tile (F := Ideal) X (tileOf R)) (pairOf R) (fun p => E (rowAt (tileOf R) (rowOf (pairOf R) p))) (fun p => hE _) (parityOf R) c
  rw [row_eq, h]
  show code (fun c => X (ix2 (rowAt (tileOf R) (rowOf (pairOf R) (parityOf R))) c)) (E (rowAt (tileOf R) (rowOf (pairOf R) (parityOf R)))) c = _
  rw [at_eq]

/-- The third result at a row and a group. -/
theorem bytes_eq (hE : ∀ R, HasExp (fun c => X (ix2 R c)) (E R)) (R : Fin 24576) (g : Fin 36) :
    outBytes (tile (F := Ideal) X (tileOf R)) (ix2 (⟨R.val % 512, Nat.mod_lt _ (by decide)⟩ : Fin 512) g) = BitVec.setWidth 8 (BitVec.ofNat 32 (E R g + 127).toNat) := by
  have h := outBytes_apply (tile (F := Ideal) X (tileOf R)) (pairOf R) (fun p => E (rowAt (tileOf R) (rowOf (pairOf R) p))) (fun p => hE _) (parityOf R) g
  rw [row_eq, h]
  show BitVec.setWidth 8 (BitVec.ofNat 32 (E (rowAt (tileOf R) (rowOf (pairOf R) (parityOf R))) g + 127).toNat) = _
  rw [at_eq]

/-- The first result at a row and a column. -/
theorem y_eq (hE : ∀ R, HasExp (fun c => X (ix2 R c)) (E R)) (W : FVec Ideal Cert.KernelIdeal.S1024x1152 .bf16)
    (b : FVec Ideal Cert.KernelIdeal.S1x1024 .f32) (R : Fin 24576) (n : Fin 1024) :
    outY (tile (F := Ideal) X (tileOf R)) W b (ix2 (⟨R.val % 512, Nat.mod_lt _ (by decide)⟩ : Fin 512) n)
      = (∑ c : Fin 1152, code (fun c => X (ix2 R c)) (E R) c * (((2 : ℝ) ^ (E R (grp c)) : ℝ) : EReal) * W (ix2 n c)) + b (ix2 (0 : Fin 1) n) := by
  have h := outY_apply (tile (F := Ideal) X (tileOf R)) W b (pairOf R) (fun p => E (rowAt (tileOf R) (rowOf (pairOf R) p))) (fun p => hE _) (parityOf R) n
  rw [row_eq, h]
  show (∑ c : Fin 1152, code (fun c => X (ix2 (rowAt (tileOf R) (rowOf (pairOf R) (parityOf R))) c)) (E (rowAt (tileOf R) (rowOf (pairOf R) (parityOf R)))) c
    * (((2 : ℝ) ^ (E (rowAt (tileOf R) (rowOf (pairOf R) (parityOf R))) (grp c)) : ℝ) : EReal) * W (ix2 n c)) + b (ix2 (0 : Fin 1) n) = _
  rw [at_eq]

section Results

variable (m : (ℓ : Loc Cert.KernelIdeal.nD Cert.KernelIdeal.τ Cert.KernelIdeal.sig) → Buf (Elt Ideal) ℓ) (c : Dev Cert.KernelIdeal.nD)

/-- The kernel's second result is the reference's codes. -/
theorem res5_eq (hE : ∀ R, HasExp (fun k => rows m c (ix2 R k)) (E R)) :
    res5 m c = Cert.ReferenceIdeal.Gen.k0_pay4 (F := Ideal) (rows m c) := by
  funext i
  obtain ⟨R, k, rfl⟩ : ∃ (R : Fin 24576) (k : Fin 1152), i = ix2 R k := ⟨i 0, i 1, funext fun b => by fin_cases b <;> rfl⟩
  refine (codes_eq (rows m c) E hE R k).trans ?_
  exact (Cert.ReferenceIdeal.RefValues.code_apply (rows m c) R (E R) (hE R) k).symm

/-- The kernel's third result is the reference's scale bytes. -/
theorem res6_eq (hE : ∀ R, HasExp (fun k => rows m c (ix2 R k)) (E R)) :
    res6 m c = Cert.ReferenceIdeal.Gen.k0_pay5 (F := Ideal) (rows m c) := by
  funext i
  obtain ⟨R, k, rfl⟩ : ∃ (R : Fin 24576) (k : Fin 36), i = ix2 R k := ⟨i 0, i 1, funext fun b => by fin_cases b <;> rfl⟩
  refine (bytes_eq (rows m c) E hE R k).trans ?_
  exact (Cert.ReferenceIdeal.RefValues.byte_apply (rows m c) R (E R) (hE R) k).symm

/-- The kernel's first result is the reference's sum. -/
theorem res4_eq (hE : ∀ R, HasExp (fun k => rows m c (ix2 R k)) (E R))
    (hs : ∀ (n : Fin 1024) (g : Fin 36), 1 ≤ (wScales m c (ix2 n g)).toNat ∧ (wScales m c (ix2 n g)).toNat ≤ 254) :
    res4 m c = Cert.ReferenceIdeal.Gen.k0_pay1 (F := Ideal) (Cert.ReferenceIdeal.Gen.k0_pay5 (rows m c))
      (Cert.ReferenceIdeal.Gen.k0_pay6 (rows m c) (wCodes m c)) (wScales m c) (bias m c) := by
  funext i
  obtain ⟨R, n, rfl⟩ : ∃ (R : Fin 24576) (n : Fin 1024), i = ix2 R n := ⟨i 0, i 1, funext fun b => by fin_cases b <;> rfl⟩
  refine (y_eq (rows m c) E hE (weights m c) (bias m c) R n).trans ?_
  refine Eq.trans ?_ (Cert.ReferenceIdeal.RefValues.y_apply (rows m c) (wCodes m c) (wScales m c) (bias m c) R (E R) (hE R) n (fun g => (hs n g).2)).symm
  congr 1
  refine Finset.sum_congr rfl fun k _ => ?_
  congr 1
  exact weights_apply (wScales m c) (wCodes m c) n k (hs n _).1 (hs n _).2

/-- A row of an array in three axes. -/
theorem flat_apply (x : FVec Ideal Cert.KernelIdeal.S8x3072x1152 .bf16) (h : Cert.KernelIdeal.S8x3072x1152.ShapeCasts Cert.KernelIdeal.S24576x1152)
    (R : Fin 24576) (k : Fin 1152) :
    shapeCast Cert.KernelIdeal.S24576x1152 x h (ix2 R k) = x (ix3 (⟨R.val / 3072, by omega⟩ : Fin 8) (⟨R.val % 3072, by omega⟩ : Fin 3072) k) := by
  pointwise

/-- Under the precondition every row has exponents. -/
theorem rows_exp (x : FVec Ideal Cert.KernelIdeal.S8x3072x1152 .bf16) (hx : ∀ (n : Fin 8) (i : Fin 3072), ∃ e : Fin 36 → ℤ, HasExp (fun k => x (ix3 n i k)) e)
    (h : Cert.KernelIdeal.S8x3072x1152.ShapeCasts Cert.KernelIdeal.S24576x1152) :
    ∃ E : Fin 24576 → Fin 36 → ℤ, ∀ R, HasExp (fun k => shapeCast Cert.KernelIdeal.S24576x1152 x h (ix2 R k)) (E R) := by
  refine ⟨fun R => (hx (⟨R.val / 3072, by omega⟩ : Fin 8) (⟨R.val % 3072, by omega⟩ : Fin 3072)).choose, fun R => ?_⟩
  simp only [flat_apply]
  exact (hx _ _).choose_spec

end Results

end Cert.Equal
-- ==== Proof.Algebraic.lean ====
/-
The algebraic claim: under the precondition the kernel and the reference end with equal results.
-/
module

public import proofs.«01_k».proof.Defs
public import proofs.«01_k».proof.Proof.Equal
public import proofs.«01_k».proof.Proof.Gen.Pre_scales_normal

set_option maxRecDepth 16384

@[expose] public section

noncomputable section

namespace Cert.Algebraic

open Idealize.ShloMosaic Idealize.SL.Sem

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's rows are the kernel's. -/
theorem rows_same (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.RefRun.rows m' c = Cert.KernelIdeal.Run.rows m c := by
  unfold Cert.ReferenceIdeal.RefRun.rows Cert.KernelIdeal.Run.rows
  rw [h]

/-- The reference's bias is the kernel's. -/
theorem bias_same (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.RefRun.bias m' c = Cert.KernelIdeal.Run.bias m c := by
  unfold Cert.ReferenceIdeal.RefRun.bias Cert.KernelIdeal.Run.bias
  rw [h]

/-- The three results of the reference are the kernel's, on the same arguments, under the precondition. -/
theorem results_same (hpre : Cert.Pre_KernelIdeal_scales_normal m)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Gen.k0_pay1 (F := Ideal) (Cert.ReferenceIdeal.Gen.k0_pay5 (Cert.ReferenceIdeal.RefRun.rows m' c))
        (Cert.ReferenceIdeal.Gen.k0_pay6 (Cert.ReferenceIdeal.RefRun.rows m' c) (Cert.ReferenceIdeal.RefRun.wCodes m' c))
        (Cert.ReferenceIdeal.RefRun.wScales m' c) (Cert.ReferenceIdeal.RefRun.bias m' c) = Cert.KernelIdeal.Run.res4 m c
      ∧ Cert.ReferenceIdeal.Gen.k0_pay4 (F := Ideal) (Cert.ReferenceIdeal.RefRun.rows m' c) = Cert.KernelIdeal.Run.res5 m c
      ∧ Cert.ReferenceIdeal.Gen.k0_pay5 (F := Ideal) (Cert.ReferenceIdeal.RefRun.rows m' c) = Cert.KernelIdeal.Run.res6 m c := by
  obtain ⟨hx, hs⟩ := Cert.Precondition.reads _ _ _ _ (hpre c)
  obtain ⟨E, hE⟩ := Cert.Equal.rows_exp _ hx (by decide)
  have hw : Cert.ReferenceIdeal.RefRun.wCodes m' c = Cert.KernelIdeal.Run.wCodes m c := h1
  have hws : Cert.ReferenceIdeal.RefRun.wScales m' c = Cert.KernelIdeal.Run.wScales m c := h2
  rw [rows_same m m' c h0, bias_same m m' c h3, hw, hws]
  exact ⟨(Cert.Equal.res4_eq E m c hE hs).symm, (Cert.Equal.res5_eq E m c hE).symm, (Cert.Equal.res6_eq E m c hE).symm⟩

end

/-- From memories that agree on the arguments and satisfy the precondition, both programs run and end with equal results. -/
theorem algebraic : Cert.algebraic_KernelIdeal_ReferenceIdeal_pre_scales_normal := fun m ρ m' ρ' hpre hag =>
  ⟨Cert.KernelIdeal.Run.res4 m, Cert.KernelIdeal.Run.res5 m, Cert.KernelIdeal.Run.res6 m, Cert.KernelIdeal.Run.run m ρ,
    (θ_run _ _ _).mono (fun _ h c => by
      have hr := results_same m m' c hpre (hag c).1 (hag c).2.1 (hag c).2.2.1 (hag c).2.2.2
      exact ⟨(h c).1.trans hr.1, (h c).2.1.trans hr.2.1, (h c).2.2.1.trans hr.2.2, (h c).2.2.2⟩)
      (Cert.ReferenceIdeal.RefRun.run m' ρ')⟩

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_normal
public import Idealize.ShloMosaic.Adequacy
public import Idealize.ShloMosaic.Init
public import Idealize.ShloMosaic.Lib.Bf16Pair
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_scales_normal.Gen.facts, by
  exact ⟨fun m ρ _ => Cert.Kernel.Gen.frame m ρ, fun m ρ _ => Cert.KernelIdeal.Gen.frame m ρ, fun m ρ _ => Cert.KernelIdeal.Gen.frame m ρ, fun m ρ _ => Cert.ReferenceIdeal.Gen.frame m ρ, fun m ρ _ => Cert.ReferenceIdeal.Gen.frame m ρ, IdealRules.bf16_pair.statement _ _, Cert.Algebraic.algebraic⟩⟩

end Cert.Proof

end
